-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x3703 : Shape := ⟨2, ![10000, 3703]⟩
abbrev S10000x10000 : Shape := ⟨2, ![10000, 10000]⟩
abbrev S3703x32 : Shape := ⟨2, ![3703, 32]⟩
abbrev S32 : Shape := ⟨1, ![32]⟩
abbrev S32x18 : Shape := ⟨2, ![32, 18]⟩
abbrev S18 : Shape := ⟨1, ![18]⟩
abbrev S18x6 : Shape := ⟨2, ![18, 6]⟩
abbrev S6 : Shape := ⟨1, ![6]⟩
abbrev S1x32 : Shape := ⟨2, ![1, 32]⟩
abbrev S1x18 : Shape := ⟨2, ![1, 18]⟩
abbrev S1x6 : Shape := ⟨2, ![1, 6]⟩
abbrev S10000x32 : Shape := ⟨2, ![10000, 32]⟩
abbrev S1280x3703 : Shape := ⟨2, ![1280, 3703]⟩
abbrev S1280x32 : Shape := ⟨2, ![1280, 32]⟩
abbrev S10000x18 : Shape := ⟨2, ![10000, 18]⟩
abbrev S512x10000 : Shape := ⟨2, ![512, 10000]⟩
abbrev S512x18 : Shape := ⟨2, ![512, 18]⟩
abbrev S512x32 : Shape := ⟨2, ![512, 32]⟩
abbrev S10000x6 : Shape := ⟨2, ![10000, 6]⟩
abbrev S1024x10000 : Shape := ⟨2, ![1024, 10000]⟩
abbrev S1024x18 : Shape := ⟨2, ![1024, 18]⟩
abbrev S1024x6 : Shape := ⟨2, ![1024, 6]⟩
abbrev S1024 : Shape := ⟨1, ![1024]⟩
abbrev S1024x1 : Shape := ⟨2, ![1024, 1]⟩

abbrev nBuf : Space → Nat
  | .hbm => 17
  | .vmem => 31
  | .smem => 0
  | _ => 0

abbrev bufTy : (tb : Table) → Fin (tcTables nBuf tb) → BufTy
  | .hbm, ⟨0, _⟩ => ⟨S10000x3703, .f32⟩
  | .hbm, ⟨1, _⟩ => ⟨S10000x10000, .f32⟩
  | .hbm, ⟨2, _⟩ => ⟨S3703x32, .f32⟩
  | .hbm, ⟨3, _⟩ => ⟨S32, .f32⟩
  | .hbm, ⟨4, _⟩ => ⟨S32x18, .f32⟩
  | .hbm, ⟨5, _⟩ => ⟨S18, .f32⟩
  | .hbm, ⟨6, _⟩ => ⟨S18x6, .f32⟩
  | .hbm, ⟨7, _⟩ => ⟨S6, .f32⟩
  | .hbm, ⟨8, _⟩ => ⟨S1x32, .f32⟩
  | .hbm, ⟨9, _⟩ => ⟨S1x18, .f32⟩
  | .hbm, ⟨10, _⟩ => ⟨S1x6, .f32⟩
  | .hbm, ⟨11, _⟩ => ⟨S10000x32, .f32⟩
  | .hbm, ⟨12, _⟩ => ⟨S10000x18, .fp8e4m3⟩
  | .hbm, ⟨13, _⟩ => ⟨S10000x10000, .fp8e4m3⟩
  | .hbm, ⟨14, _⟩ => ⟨S10000x18, .f32⟩
  | .hbm, ⟨15, _⟩ => ⟨S10000x6, .fp8e4m3⟩
  | .hbm, ⟨16, _⟩ => ⟨S10000x6, .f32⟩
  | .local _ .vmem, ⟨0, _⟩ => ⟨S1280x3703, .f32⟩
  | .local _ .vmem, ⟨1, _⟩ => ⟨S1280x3703, .f32⟩
  | .local _ .vmem, ⟨2, _⟩ => ⟨S3703x32, .f32⟩
  | .local _ .vmem, ⟨3, _⟩ => ⟨S1280x32, .f32⟩
  | .local _ .vmem, ⟨4, _⟩ => ⟨S1280x32, .f32⟩
  | .local _ .vmem, ⟨5, _⟩ => ⟨S512x10000, .f32⟩
  | .local _ .vmem, ⟨6, _⟩ => ⟨S512x10000, .f32⟩
  | .local _ .vmem, ⟨7, _⟩ => ⟨S10000x32, .f32⟩
  | .local _ .vmem, ⟨8, _⟩ => ⟨S1x32, .f32⟩
  | .local _ .vmem, ⟨9, _⟩ => ⟨S32x18, .f32⟩
  | .local _ .vmem, ⟨10, _⟩ => ⟨S512x18, .fp8e4m3⟩
  | .local _ .vmem, ⟨11, _⟩ => ⟨S512x18, .fp8e4m3⟩
  | .local _ .vmem, ⟨12, _⟩ => ⟨S512x10000, .fp8e4m3⟩
  | .local _ .vmem, ⟨13, _⟩ => ⟨S512x10000, .fp8e4m3⟩
  | .local _ .vmem, ⟨14, _⟩ => ⟨S512x18, .f32⟩
  | .local _ .vmem, ⟨15, _⟩ => ⟨S512x18, .f32⟩
  | .local _ .vmem, ⟨16, _⟩ => ⟨S1024x10000, .fp8e4m3⟩
  | .local _ .vmem, ⟨17, _⟩ => ⟨S1024x10000, .fp8e4m3⟩
  | .local _ .vmem, ⟨18, _⟩ => ⟨S10000x18, .fp8e4m3⟩
  | .local _ .vmem, ⟨19, _⟩ => ⟨S1x18, .f32⟩
  | .local _ .vmem, ⟨20, _⟩ => ⟨S1024x18, .f32⟩
  | .local _ .vmem, ⟨21, _⟩ => ⟨S1024x18, .f32⟩
  | .local _ .vmem, ⟨22, _⟩ => ⟨S18x6, .f32⟩
  | .local _ .vmem, ⟨23, _⟩ => ⟨S1024x6, .fp8e4m3⟩
  | .local _ .vmem, ⟨24, _⟩ => ⟨S1024x6, .fp8e4m3⟩
  | .local _ .vmem, ⟨25, _⟩ => ⟨S1024x10000, .fp8e4m3⟩
  | .local _ .vmem, ⟨26, _⟩ => ⟨S1024x10000, .fp8e4m3⟩
  | .local _ .vmem, ⟨27, _⟩ => ⟨S10000x6, .fp8e4m3⟩
  | .local _ .vmem, ⟨28, _⟩ => ⟨S1x6, .f32⟩
  | .local _ .vmem, ⟨29, _⟩ => ⟨S1024x6, .f32⟩
  | .local _ .vmem, ⟨30, _⟩ => ⟨S1024x6, .f32⟩
  | _, _ => ⟨S10000x3703, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg3_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem3_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x3703 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3703x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x18 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x18 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x10000 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x18 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x10000 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x18 .fp8e4m3 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x18 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x18 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S18x6 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x6 .fp8e4m3 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x10000 .fp8e4m3 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x6 .fp8e4m3 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x6 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x6 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]
-- ==== ReferenceIdeal.lean ====
abbrev S10000x3703 : Shape := ⟨2, ![10000, 3703]⟩
abbrev S10000x10000 : Shape := ⟨2, ![10000, 10000]⟩
abbrev S3703x32 : Shape := ⟨2, ![3703, 32]⟩
abbrev S32 : Shape := ⟨1, ![32]⟩
abbrev S32x18 : Shape := ⟨2, ![32, 18]⟩
abbrev S18 : Shape := ⟨1, ![18]⟩
abbrev S18x6 : Shape := ⟨2, ![18, 6]⟩
abbrev S6 : Shape := ⟨1, ![6]⟩
abbrev S_ : Shape := ⟨0, ![]⟩
abbrev S1 : Shape := ⟨1, ![1]⟩
abbrev S2 : Shape := ⟨1, ![2]⟩
abbrev S10000x32 : Shape := ⟨2, ![10000, 32]⟩
abbrev S1x32 : Shape := ⟨2, ![1, 32]⟩
abbrev S1x1 : Shape := ⟨2, ![1, 1]⟩
abbrev S10000x18 : Shape := ⟨2, ![10000, 18]⟩
abbrev S1x18 : Shape := ⟨2, ![1, 18]⟩
abbrev S10000x6 : Shape := ⟨2, ![10000, 6]⟩
abbrev S1x6 : Shape := ⟨2, ![1, 6]⟩
abbrev S10000 : Shape := ⟨1, ![10000]⟩
abbrev S10000x1 : Shape := ⟨2, ![10000, 1]⟩

abbrev nBuf : Space → Nat
  | .hbm => 607
  | .vmem => 0
  | .smem => 0
  | _ => 0

abbrev hbmTy0_0 (i : Nat) : BufTy := match i % 128 with
  | 0 => ⟨S10000x3703, .f32⟩
  | 1 => ⟨S10000x10000, .f32⟩
  | 2 => ⟨S3703x32, .f32⟩
  | 3 => ⟨S32, .f32⟩
  | 4 => ⟨S32x18, .f32⟩
  | 5 => ⟨S18, .f32⟩
  | 6 => ⟨S18x6, .f32⟩
  | 7 => ⟨S6, .f32⟩
  | 8 => ⟨S_, .i32⟩
  | 9 => ⟨S_, .i32⟩
  | 10 => ⟨S_, .i32⟩
  | 11 => ⟨S_, .i32⟩
  | 12 => ⟨S1, .i32⟩
  | 13 => ⟨S_, .i32⟩
  | 14 => ⟨S_, .i32⟩
  | 15 => ⟨S_, .i32⟩
  | 16 => ⟨S1, .i32⟩
  | 17 => ⟨S2, .i32⟩
  | 18 => ⟨S_, .i32⟩
  | 19 => ⟨S_, .i32⟩
  | 20 => ⟨S_, .i32⟩
  | 21 => ⟨S_, .i32⟩
  | 22 => ⟨S1, .i32⟩
  | 23 => ⟨S_, .i32⟩
  | 24 => ⟨S_, .i32⟩
  | 25 => ⟨S_, .i32⟩
  | 26 => ⟨S1, .i32⟩
  | 27 => ⟨S2, .i32⟩
  | 28 => ⟨S10000x32, .f32⟩
  | 29 => ⟨S10000x32, .f32⟩
  | 30 => ⟨S1x32, .f32⟩
  | 31 => ⟨S10000x32, .f32⟩
  | 32 => ⟨S10000x32, .f32⟩
  | 33 => ⟨S_, .f32⟩
  | 34 => ⟨S10000x32, .f32⟩
  | 35 => ⟨S10000x32, .f32⟩
  | 36 => ⟨S_, .f32⟩
  | 37 => ⟨S_, .f32⟩
  | 38 => ⟨S_, .f32⟩
  | 39 => ⟨S_, .f32⟩
  | 40 => ⟨S_, .f32⟩
  | 41 => ⟨S1x1, .f32⟩
  | 42 => ⟨S1x1, .f32⟩
  | 43 => ⟨S1, .i32⟩
  | 44 => ⟨S_, .i32⟩
  | 45 => ⟨S1, .i32⟩
  | 46 => ⟨S_, .i32⟩
  | 47 => ⟨S10000x32, .i64⟩
  | 48 => ⟨S10000x32, .i64⟩
  | 49 => ⟨S_, .i64⟩
  | 50 => ⟨S10000x32, .i64⟩
  | 51 => ⟨S10000x32, .i64⟩
  | 52 => ⟨S_, .i64⟩
  | 53 => ⟨S10000x32, .i64⟩
  | 54 => ⟨S10000x32, .i64⟩
  | 55 => ⟨S10000x32, .i64⟩
  | 56 => ⟨S_, .i64⟩
  | 57 => ⟨S10000x32, .i64⟩
  | 58 => ⟨S10000x32, .i64⟩
  | 59 => ⟨S10000x32, .i32⟩
  | 60 => ⟨S10000x32, .i32⟩
  | 61 => ⟨S_, .i32⟩
  | 62 => ⟨S_, .i32⟩
  | 63 => ⟨S_, .i32⟩
  | 64 => ⟨S10000x32, .i32⟩
  | 65 => ⟨S10000x32, .i32⟩
  | 66 => ⟨S10000x32, .i32⟩
  | 67 => ⟨S10000x32, .i32⟩
  | 68 => ⟨S10000x32, .i32⟩
  | 69 => ⟨S_, .i32⟩
  | 70 => ⟨S10000x32, .i32⟩
  | 71 => ⟨S10000x32, .i32⟩
  | 72 => ⟨S_, .i32⟩
  | 73 => ⟨S10000x32, .i32⟩
  | 74 => ⟨S10000x32, .i32⟩
  | 75 => ⟨S10000x32, .i32⟩
  | 76 => ⟨S10000x32, .i32⟩
  | 77 => ⟨S10000x32, .i32⟩
  | 78 => ⟨S_, .i32⟩
  | 79 => ⟨S10000x32, .i32⟩
  | 80 => ⟨S10000x32, .i32⟩
  | 81 => ⟨S_, .i32⟩
  | 82 => ⟨S10000x32, .i32⟩
  | 83 => ⟨S10000x32, .i32⟩
  | 84 => ⟨S10000x32, .i32⟩
  | 85 => ⟨S10000x32, .i32⟩
  | 86 => ⟨S10000x32, .i32⟩
  | 87 => ⟨S_, .i32⟩
  | 88 => ⟨S10000x32, .i32⟩
  | 89 => ⟨S10000x32, .i32⟩
  | 90 => ⟨S_, .i32⟩
  | 91 => ⟨S10000x32, .i32⟩
  | 92 => ⟨S10000x32, .i32⟩
  | 93 => ⟨S10000x32, .i32⟩
  | 94 => ⟨S10000x32, .i32⟩
  | 95 => ⟨S10000x32, .i32⟩
  | 96 => ⟨S_, .i32⟩
  | 97 => ⟨S10000x32, .i32⟩
  | 98 => ⟨S10000x32, .i32⟩
  | 99 => ⟨S_, .i32⟩
  | 100 => ⟨S10000x32, .i32⟩
  | 101 => ⟨S10000x32, .i32⟩
  | 102 => ⟨S10000x32, .i32⟩
  | 103 => ⟨S10000x32, .i32⟩
  | 104 => ⟨S10000x32, .i32⟩
  | 105 => ⟨S10000x32, .i32⟩
  | 106 => ⟨S10000x32, .i32⟩
  | 107 => ⟨S10000x32, .i32⟩
  | 108 => ⟨S_, .i32⟩
  | 109 => ⟨S10000x32, .i32⟩
  | 110 => ⟨S10000x32, .i32⟩
  | 111 => ⟨S10000x32, .i32⟩
  | 112 => ⟨S_, .i32⟩
  | 113 => ⟨S10000x32, .i32⟩
  | 114 => ⟨S10000x32, .i32⟩
  | 115 => ⟨S_, .i32⟩
  | 116 => ⟨S10000x32, .i32⟩
  | 117 => ⟨S10000x32, .i32⟩
  | 118 => ⟨S10000x32, .i32⟩
  | 119 => ⟨S10000x32, .i32⟩
  | 120 => ⟨S10000x32, .i32⟩
  | 121 => ⟨S_, .i32⟩
  | 122 => ⟨S10000x32, .i32⟩
  | 123 => ⟨S10000x32, .i32⟩
  | 124 => ⟨S_, .i32⟩
  | 125 => ⟨S10000x32, .i32⟩
  | 126 => ⟨S10000x32, .i32⟩
  | 127 => ⟨S10000x32, .i32⟩
  | _ => ⟨S10000x3703, .f32⟩

abbrev hbmTy0_1 (i : Nat) : BufTy := match i % 128 with
  | 0 => ⟨S10000x32, .i32⟩
  | 1 => ⟨S10000x32, .i32⟩
  | 2 => ⟨S_, .i32⟩
  | 3 => ⟨S10000x32, .i32⟩
  | 4 => ⟨S10000x32, .i32⟩
  | 5 => ⟨S_, .i32⟩
  | 6 => ⟨S10000x32, .i32⟩
  | 7 => ⟨S10000x32, .i32⟩
  | 8 => ⟨S10000x32, .i32⟩
  | 9 => ⟨S10000x32, .i32⟩
  | 10 => ⟨S10000x32, .i32⟩
  | 11 => ⟨S_, .i32⟩
  | 12 => ⟨S10000x32, .i32⟩
  | 13 => ⟨S10000x32, .i32⟩
  | 14 => ⟨S_, .i32⟩
  | 15 => ⟨S10000x32, .i32⟩
  | 16 => ⟨S10000x32, .i32⟩
  | 17 => ⟨S10000x32, .i32⟩
  | 18 => ⟨S10000x32, .i32⟩
  | 19 => ⟨S10000x32, .i32⟩
  | 20 => ⟨S10000x32, .i32⟩
  | 21 => ⟨S10000x32, .i32⟩
  | 22 => ⟨S10000x32, .i32⟩
  | 23 => ⟨S_, .i32⟩
  | 24 => ⟨S10000x32, .i32⟩
  | 25 => ⟨S10000x32, .i32⟩
  | 26 => ⟨S10000x32, .i32⟩
  | 27 => ⟨S_, .i32⟩
  | 28 => ⟨S10000x32, .i32⟩
  | 29 => ⟨S10000x32, .i32⟩
  | 30 => ⟨S_, .i32⟩
  | 31 => ⟨S10000x32, .i32⟩
  | 32 => ⟨S10000x32, .i32⟩
  | 33 => ⟨S10000x32, .i32⟩
  | 34 => ⟨S10000x32, .i32⟩
  | 35 => ⟨S10000x32, .i32⟩
  | 36 => ⟨S_, .i32⟩
  | 37 => ⟨S10000x32, .i32⟩
  | 38 => ⟨S10000x32, .i32⟩
  | 39 => ⟨S_, .i32⟩
  | 40 => ⟨S10000x32, .i32⟩
  | 41 => ⟨S10000x32, .i32⟩
  | 42 => ⟨S10000x32, .i32⟩
  | 43 => ⟨S10000x32, .i32⟩
  | 44 => ⟨S10000x32, .i32⟩
  | 45 => ⟨S_, .i32⟩
  | 46 => ⟨S10000x32, .i32⟩
  | 47 => ⟨S10000x32, .i32⟩
  | 48 => ⟨S_, .i32⟩
  | 49 => ⟨S10000x32, .i32⟩
  | 50 => ⟨S10000x32, .i32⟩
  | 51 => ⟨S10000x32, .i32⟩
  | 52 => ⟨S10000x32, .i32⟩
  | 53 => ⟨S10000x32, .i32⟩
  | 54 => ⟨S_, .i32⟩
  | 55 => ⟨S10000x32, .i32⟩
  | 56 => ⟨S10000x32, .i32⟩
  | 57 => ⟨S_, .i32⟩
  | 58 => ⟨S10000x32, .i32⟩
  | 59 => ⟨S10000x32, .i32⟩
  | 60 => ⟨S10000x32, .i32⟩
  | 61 => ⟨S10000x32, .i32⟩
  | 62 => ⟨S10000x32, .i32⟩
  | 63 => ⟨S10000x32, .i32⟩
  | 64 => ⟨S10000x32, .i32⟩
  | 65 => ⟨S10000x32, .i32⟩
  | 66 => ⟨S_, .i32⟩
  | 67 => ⟨S10000x32, .i32⟩
  | 68 => ⟨S10000x32, .i32⟩
  | 69 => ⟨S10000x32, .i32⟩
  | 70 => ⟨S_, .i32⟩
  | 71 => ⟨S10000x32, .i32⟩
  | 72 => ⟨S10000x32, .i32⟩
  | 73 => ⟨S_, .i32⟩
  | 74 => ⟨S10000x32, .i32⟩
  | 75 => ⟨S10000x32, .i32⟩
  | 76 => ⟨S10000x32, .i32⟩
  | 77 => ⟨S10000x32, .i32⟩
  | 78 => ⟨S10000x32, .i32⟩
  | 79 => ⟨S_, .i32⟩
  | 80 => ⟨S10000x32, .i32⟩
  | 81 => ⟨S10000x32, .i32⟩
  | 82 => ⟨S_, .i32⟩
  | 83 => ⟨S10000x32, .i32⟩
  | 84 => ⟨S10000x32, .i32⟩
  | 85 => ⟨S10000x32, .i32⟩
  | 86 => ⟨S10000x32, .i32⟩
  | 87 => ⟨S10000x32, .i32⟩
  | 88 => ⟨S_, .i32⟩
  | 89 => ⟨S10000x32, .i32⟩
  | 90 => ⟨S10000x32, .i32⟩
  | 91 => ⟨S_, .i32⟩
  | 92 => ⟨S10000x32, .i32⟩
  | 93 => ⟨S10000x32, .i32⟩
  | 94 => ⟨S10000x32, .i32⟩
  | 95 => ⟨S10000x32, .i32⟩
  | 96 => ⟨S10000x32, .i32⟩
  | 97 => ⟨S_, .i32⟩
  | 98 => ⟨S10000x32, .i32⟩
  | 99 => ⟨S10000x32, .i32⟩
  | 100 => ⟨S_, .i32⟩
  | 101 => ⟨S10000x32, .i32⟩
  | 102 => ⟨S10000x32, .i32⟩
  | 103 => ⟨S10000x32, .i32⟩
  | 104 => ⟨S10000x32, .i32⟩
  | 105 => ⟨S10000x32, .i32⟩
  | 106 => ⟨S10000x32, .i32⟩
  | 107 => ⟨S10000x32, .i32⟩
  | 108 => ⟨S10000x32, .i32⟩
  | 109 => ⟨S_, .i32⟩
  | 110 => ⟨S10000x32, .i32⟩
  | 111 => ⟨S10000x32, .i32⟩
  | 112 => ⟨S10000x32, .i32⟩
  | 113 => ⟨S_, .i32⟩
  | 114 => ⟨S10000x32, .i32⟩
  | 115 => ⟨S10000x32, .i32⟩
  | 116 => ⟨S_, .i32⟩
  | 117 => ⟨S10000x32, .i32⟩
  | 118 => ⟨S10000x32, .i32⟩
  | 119 => ⟨S10000x32, .i32⟩
  | 120 => ⟨S10000x32, .i32⟩
  | 121 => ⟨S10000x32, .i32⟩
  | 122 => ⟨S_, .i32⟩
  | 123 => ⟨S10000x32, .i32⟩
  | 124 => ⟨S10000x32, .i32⟩
  | 125 => ⟨S_, .i32⟩
  | 126 => ⟨S10000x32, .i32⟩
  | 127 => ⟨S10000x32, .i32⟩
  | _ => ⟨S10000x3703, .f32⟩

abbrev hbmTy0_2 (i : Nat) : BufTy := match i % 128 with
  | 0 => ⟨S10000x32, .i32⟩
  | 1 => ⟨S10000x32, .i32⟩
  | 2 => ⟨S10000x32, .i32⟩
  | 3 => ⟨S_, .i32⟩
  | 4 => ⟨S10000x32, .i32⟩
  | 5 => ⟨S10000x32, .i32⟩
  | 6 => ⟨S_, .i32⟩
  | 7 => ⟨S10000x32, .i32⟩
  | 8 => ⟨S10000x32, .i32⟩
  | 9 => ⟨S10000x32, .i32⟩
  | 10 => ⟨S10000x32, .i32⟩
  | 11 => ⟨S10000x32, .i32⟩
  | 12 => ⟨S_, .i32⟩
  | 13 => ⟨S10000x32, .i32⟩
  | 14 => ⟨S10000x32, .i32⟩
  | 15 => ⟨S_, .i32⟩
  | 16 => ⟨S10000x32, .i32⟩
  | 17 => ⟨S10000x32, .i32⟩
  | 18 => ⟨S10000x32, .i32⟩
  | 19 => ⟨S10000x32, .i32⟩
  | 20 => ⟨S10000x32, .i32⟩
  | 21 => ⟨S10000x32, .i32⟩
  | 22 => ⟨S10000x32, .i32⟩
  | 23 => ⟨S10000x32, .i32⟩
  | 24 => ⟨S_, .i32⟩
  | 25 => ⟨S10000x32, .i32⟩
  | 26 => ⟨S10000x32, .i32⟩
  | 27 => ⟨S10000x32, .i32⟩
  | 28 => ⟨S_, .i32⟩
  | 29 => ⟨S10000x32, .i32⟩
  | 30 => ⟨S10000x32, .i32⟩
  | 31 => ⟨S_, .i32⟩
  | 32 => ⟨S10000x32, .i32⟩
  | 33 => ⟨S10000x32, .i32⟩
  | 34 => ⟨S10000x32, .f32⟩
  | 35 => ⟨S_, .f32⟩
  | 36 => ⟨S10000x32, .f32⟩
  | 37 => ⟨S10000x32, .f32⟩
  | 38 => ⟨S1x1, .f32⟩
  | 39 => ⟨S10000x32, .f32⟩
  | 40 => ⟨S10000x32, .f32⟩
  | 41 => ⟨S10000x32, .f32⟩
  | 42 => ⟨S10000x32, .f32⟩
  | 43 => ⟨S10000x32, .f32⟩
  | 44 => ⟨S10000x32, .f32⟩
  | 45 => ⟨S10000x32, .f32⟩
  | 46 => ⟨S10000x32, .i1⟩
  | 47 => ⟨S_, .f32⟩
  | 48 => ⟨S10000x32, .f32⟩
  | 49 => ⟨S10000x32, .f32⟩
  | 50 => ⟨S_, .f32⟩
  | 51 => ⟨S10000x32, .f32⟩
  | 52 => ⟨S10000x32, .f32⟩
  | 53 => ⟨S10000x18, .f32⟩
  | 54 => ⟨S10000x18, .f32⟩
  | 55 => ⟨S1x18, .f32⟩
  | 56 => ⟨S10000x18, .f32⟩
  | 57 => ⟨S10000x18, .f32⟩
  | 58 => ⟨S_, .f32⟩
  | 59 => ⟨S_, .f32⟩
  | 60 => ⟨S_, .f32⟩
  | 61 => ⟨S_, .f32⟩
  | 62 => ⟨S_, .f32⟩
  | 63 => ⟨S1x1, .f32⟩
  | 64 => ⟨S1x1, .f32⟩
  | 65 => ⟨S1, .i32⟩
  | 66 => ⟨S_, .i32⟩
  | 67 => ⟨S1, .i32⟩
  | 68 => ⟨S_, .i32⟩
  | 69 => ⟨S10000x18, .i64⟩
  | 70 => ⟨S10000x18, .i64⟩
  | 71 => ⟨S_, .i64⟩
  | 72 => ⟨S10000x18, .i64⟩
  | 73 => ⟨S10000x18, .i64⟩
  | 74 => ⟨S_, .i64⟩
  | 75 => ⟨S10000x18, .i64⟩
  | 76 => ⟨S10000x18, .i64⟩
  | 77 => ⟨S10000x18, .i64⟩
  | 78 => ⟨S_, .i64⟩
  | 79 => ⟨S10000x18, .i64⟩
  | 80 => ⟨S10000x18, .i64⟩
  | 81 => ⟨S10000x18, .i32⟩
  | 82 => ⟨S10000x18, .i32⟩
  | 83 => ⟨S_, .i32⟩
  | 84 => ⟨S_, .i32⟩
  | 85 => ⟨S_, .i32⟩
  | 86 => ⟨S10000x18, .i32⟩
  | 87 => ⟨S10000x18, .i32⟩
  | 88 => ⟨S10000x18, .i32⟩
  | 89 => ⟨S10000x18, .i32⟩
  | 90 => ⟨S10000x18, .i32⟩
  | 91 => ⟨S_, .i32⟩
  | 92 => ⟨S10000x18, .i32⟩
  | 93 => ⟨S10000x18, .i32⟩
  | 94 => ⟨S_, .i32⟩
  | 95 => ⟨S10000x18, .i32⟩
  | 96 => ⟨S10000x18, .i32⟩
  | 97 => ⟨S10000x18, .i32⟩
  | 98 => ⟨S10000x18, .i32⟩
  | 99 => ⟨S10000x18, .i32⟩
  | 100 => ⟨S_, .i32⟩
  | 101 => ⟨S10000x18, .i32⟩
  | 102 => ⟨S10000x18, .i32⟩
  | 103 => ⟨S_, .i32⟩
  | 104 => ⟨S10000x18, .i32⟩
  | 105 => ⟨S10000x18, .i32⟩
  | 106 => ⟨S10000x18, .i32⟩
  | 107 => ⟨S10000x18, .i32⟩
  | 108 => ⟨S10000x18, .i32⟩
  | 109 => ⟨S_, .i32⟩
  | 110 => ⟨S10000x18, .i32⟩
  | 111 => ⟨S10000x18, .i32⟩
  | 112 => ⟨S_, .i32⟩
  | 113 => ⟨S10000x18, .i32⟩
  | 114 => ⟨S10000x18, .i32⟩
  | 115 => ⟨S10000x18, .i32⟩
  | 116 => ⟨S10000x18, .i32⟩
  | 117 => ⟨S10000x18, .i32⟩
  | 118 => ⟨S_, .i32⟩
  | 119 => ⟨S10000x18, .i32⟩
  | 120 => ⟨S10000x18, .i32⟩
  | 121 => ⟨S_, .i32⟩
  | 122 => ⟨S10000x18, .i32⟩
  | 123 => ⟨S10000x18, .i32⟩
  | 124 => ⟨S10000x18, .i32⟩
  | 125 => ⟨S10000x18, .i32⟩
  | 126 => ⟨S10000x18, .i32⟩
  | 127 => ⟨S10000x18, .i32⟩
  | _ => ⟨S10000x3703, .f32⟩

abbrev hbmTy0_3 (i : Nat) : BufTy := match i % 128 with
  | 0 => ⟨S10000x18, .i32⟩
  | 1 => ⟨S10000x18, .i32⟩
  | 2 => ⟨S_, .i32⟩
  | 3 => ⟨S10000x18, .i32⟩
  | 4 => ⟨S10000x18, .i32⟩
  | 5 => ⟨S10000x18, .i32⟩
  | 6 => ⟨S_, .i32⟩
  | 7 => ⟨S10000x18, .i32⟩
  | 8 => ⟨S10000x18, .i32⟩
  | 9 => ⟨S_, .i32⟩
  | 10 => ⟨S10000x18, .i32⟩
  | 11 => ⟨S10000x18, .i32⟩
  | 12 => ⟨S10000x18, .i32⟩
  | 13 => ⟨S10000x18, .i32⟩
  | 14 => ⟨S10000x18, .i32⟩
  | 15 => ⟨S_, .i32⟩
  | 16 => ⟨S10000x18, .i32⟩
  | 17 => ⟨S10000x18, .i32⟩
  | 18 => ⟨S_, .i32⟩
  | 19 => ⟨S10000x18, .i32⟩
  | 20 => ⟨S10000x18, .i32⟩
  | 21 => ⟨S10000x18, .i32⟩
  | 22 => ⟨S10000x18, .i32⟩
  | 23 => ⟨S10000x18, .i32⟩
  | 24 => ⟨S_, .i32⟩
  | 25 => ⟨S10000x18, .i32⟩
  | 26 => ⟨S10000x18, .i32⟩
  | 27 => ⟨S_, .i32⟩
  | 28 => ⟨S10000x18, .i32⟩
  | 29 => ⟨S10000x18, .i32⟩
  | 30 => ⟨S10000x18, .i32⟩
  | 31 => ⟨S10000x18, .i32⟩
  | 32 => ⟨S10000x18, .i32⟩
  | 33 => ⟨S_, .i32⟩
  | 34 => ⟨S10000x18, .i32⟩
  | 35 => ⟨S10000x18, .i32⟩
  | 36 => ⟨S_, .i32⟩
  | 37 => ⟨S10000x18, .i32⟩
  | 38 => ⟨S10000x18, .i32⟩
  | 39 => ⟨S10000x18, .i32⟩
  | 40 => ⟨S10000x18, .i32⟩
  | 41 => ⟨S10000x18, .i32⟩
  | 42 => ⟨S10000x18, .i32⟩
  | 43 => ⟨S10000x18, .i32⟩
  | 44 => ⟨S10000x18, .i32⟩
  | 45 => ⟨S_, .i32⟩
  | 46 => ⟨S10000x18, .i32⟩
  | 47 => ⟨S10000x18, .i32⟩
  | 48 => ⟨S10000x18, .i32⟩
  | 49 => ⟨S_, .i32⟩
  | 50 => ⟨S10000x18, .i32⟩
  | 51 => ⟨S10000x18, .i32⟩
  | 52 => ⟨S_, .i32⟩
  | 53 => ⟨S10000x18, .i32⟩
  | 54 => ⟨S10000x18, .i32⟩
  | 55 => ⟨S10000x18, .i32⟩
  | 56 => ⟨S10000x18, .i32⟩
  | 57 => ⟨S10000x18, .i32⟩
  | 58 => ⟨S_, .i32⟩
  | 59 => ⟨S10000x18, .i32⟩
  | 60 => ⟨S10000x18, .i32⟩
  | 61 => ⟨S_, .i32⟩
  | 62 => ⟨S10000x18, .i32⟩
  | 63 => ⟨S10000x18, .i32⟩
  | 64 => ⟨S10000x18, .i32⟩
  | 65 => ⟨S10000x18, .i32⟩
  | 66 => ⟨S10000x18, .i32⟩
  | 67 => ⟨S_, .i32⟩
  | 68 => ⟨S10000x18, .i32⟩
  | 69 => ⟨S10000x18, .i32⟩
  | 70 => ⟨S_, .i32⟩
  | 71 => ⟨S10000x18, .i32⟩
  | 72 => ⟨S10000x18, .i32⟩
  | 73 => ⟨S10000x18, .i32⟩
  | 74 => ⟨S10000x18, .i32⟩
  | 75 => ⟨S10000x18, .i32⟩
  | 76 => ⟨S_, .i32⟩
  | 77 => ⟨S10000x18, .i32⟩
  | 78 => ⟨S10000x18, .i32⟩
  | 79 => ⟨S_, .i32⟩
  | 80 => ⟨S10000x18, .i32⟩
  | 81 => ⟨S10000x18, .i32⟩
  | 82 => ⟨S10000x18, .i32⟩
  | 83 => ⟨S10000x18, .i32⟩
  | 84 => ⟨S10000x18, .i32⟩
  | 85 => ⟨S10000x18, .i32⟩
  | 86 => ⟨S10000x18, .i32⟩
  | 87 => ⟨S10000x18, .i32⟩
  | 88 => ⟨S_, .i32⟩
  | 89 => ⟨S10000x18, .i32⟩
  | 90 => ⟨S10000x18, .i32⟩
  | 91 => ⟨S10000x18, .i32⟩
  | 92 => ⟨S_, .i32⟩
  | 93 => ⟨S10000x18, .i32⟩
  | 94 => ⟨S10000x18, .i32⟩
  | 95 => ⟨S_, .i32⟩
  | 96 => ⟨S10000x18, .i32⟩
  | 97 => ⟨S10000x18, .i32⟩
  | 98 => ⟨S10000x18, .i32⟩
  | 99 => ⟨S10000x18, .i32⟩
  | 100 => ⟨S10000x18, .i32⟩
  | 101 => ⟨S_, .i32⟩
  | 102 => ⟨S10000x18, .i32⟩
  | 103 => ⟨S10000x18, .i32⟩
  | 104 => ⟨S_, .i32⟩
  | 105 => ⟨S10000x18, .i32⟩
  | 106 => ⟨S10000x18, .i32⟩
  | 107 => ⟨S10000x18, .i32⟩
  | 108 => ⟨S10000x18, .i32⟩
  | 109 => ⟨S10000x18, .i32⟩
  | 110 => ⟨S_, .i32⟩
  | 111 => ⟨S10000x18, .i32⟩
  | 112 => ⟨S10000x18, .i32⟩
  | 113 => ⟨S_, .i32⟩
  | 114 => ⟨S10000x18, .i32⟩
  | 115 => ⟨S10000x18, .i32⟩
  | 116 => ⟨S10000x18, .i32⟩
  | 117 => ⟨S10000x18, .i32⟩
  | 118 => ⟨S10000x18, .i32⟩
  | 119 => ⟨S_, .i32⟩
  | 120 => ⟨S10000x18, .i32⟩
  | 121 => ⟨S10000x18, .i32⟩
  | 122 => ⟨S_, .i32⟩
  | 123 => ⟨S10000x18, .i32⟩
  | 124 => ⟨S10000x18, .i32⟩
  | 125 => ⟨S10000x18, .i32⟩
  | 126 => ⟨S10000x18, .i32⟩
  | 127 => ⟨S10000x18, .i32⟩
  | _ => ⟨S10000x3703, .f32⟩

abbrev hbmTy0_4 (i : Nat) : BufTy := match i % 128 with
  | 0 => ⟨S10000x18, .i32⟩
  | 1 => ⟨S10000x18, .i32⟩
  | 2 => ⟨S10000x18, .i32⟩
  | 3 => ⟨S_, .i32⟩
  | 4 => ⟨S10000x18, .i32⟩
  | 5 => ⟨S10000x18, .i32⟩
  | 6 => ⟨S10000x18, .i32⟩
  | 7 => ⟨S_, .i32⟩
  | 8 => ⟨S10000x18, .i32⟩
  | 9 => ⟨S10000x18, .i32⟩
  | 10 => ⟨S_, .i32⟩
  | 11 => ⟨S10000x18, .i32⟩
  | 12 => ⟨S10000x18, .i32⟩
  | 13 => ⟨S10000x18, .i32⟩
  | 14 => ⟨S10000x18, .i32⟩
  | 15 => ⟨S10000x18, .i32⟩
  | 16 => ⟨S_, .i32⟩
  | 17 => ⟨S10000x18, .i32⟩
  | 18 => ⟨S10000x18, .i32⟩
  | 19 => ⟨S_, .i32⟩
  | 20 => ⟨S10000x18, .i32⟩
  | 21 => ⟨S10000x18, .i32⟩
  | 22 => ⟨S10000x18, .i32⟩
  | 23 => ⟨S10000x18, .i32⟩
  | 24 => ⟨S10000x18, .i32⟩
  | 25 => ⟨S_, .i32⟩
  | 26 => ⟨S10000x18, .i32⟩
  | 27 => ⟨S10000x18, .i32⟩
  | 28 => ⟨S_, .i32⟩
  | 29 => ⟨S10000x18, .i32⟩
  | 30 => ⟨S10000x18, .i32⟩
  | 31 => ⟨S10000x18, .i32⟩
  | 32 => ⟨S10000x18, .i32⟩
  | 33 => ⟨S10000x18, .i32⟩
  | 34 => ⟨S_, .i32⟩
  | 35 => ⟨S10000x18, .i32⟩
  | 36 => ⟨S10000x18, .i32⟩
  | 37 => ⟨S_, .i32⟩
  | 38 => ⟨S10000x18, .i32⟩
  | 39 => ⟨S10000x18, .i32⟩
  | 40 => ⟨S10000x18, .i32⟩
  | 41 => ⟨S10000x18, .i32⟩
  | 42 => ⟨S10000x18, .i32⟩
  | 43 => ⟨S10000x18, .i32⟩
  | 44 => ⟨S10000x18, .i32⟩
  | 45 => ⟨S10000x18, .i32⟩
  | 46 => ⟨S_, .i32⟩
  | 47 => ⟨S10000x18, .i32⟩
  | 48 => ⟨S10000x18, .i32⟩
  | 49 => ⟨S10000x18, .i32⟩
  | 50 => ⟨S_, .i32⟩
  | 51 => ⟨S10000x18, .i32⟩
  | 52 => ⟨S10000x18, .i32⟩
  | 53 => ⟨S_, .i32⟩
  | 54 => ⟨S10000x18, .i32⟩
  | 55 => ⟨S10000x18, .i32⟩
  | 56 => ⟨S10000x18, .f32⟩
  | 57 => ⟨S_, .f32⟩
  | 58 => ⟨S10000x18, .f32⟩
  | 59 => ⟨S10000x18, .f32⟩
  | 60 => ⟨S1x1, .f32⟩
  | 61 => ⟨S10000x18, .f32⟩
  | 62 => ⟨S10000x18, .f32⟩
  | 63 => ⟨S10000x18, .f32⟩
  | 64 => ⟨S10000x18, .f32⟩
  | 65 => ⟨S10000x18, .f32⟩
  | 66 => ⟨S10000x18, .f32⟩
  | 67 => ⟨S10000x18, .f32⟩
  | 68 => ⟨S10000x18, .i1⟩
  | 69 => ⟨S_, .f32⟩
  | 70 => ⟨S10000x18, .f32⟩
  | 71 => ⟨S10000x18, .f32⟩
  | 72 => ⟨S_, .f32⟩
  | 73 => ⟨S10000x18, .f32⟩
  | 74 => ⟨S10000x18, .f32⟩
  | 75 => ⟨S10000x6, .f32⟩
  | 76 => ⟨S10000x6, .f32⟩
  | 77 => ⟨S1x6, .f32⟩
  | 78 => ⟨S10000x6, .f32⟩
  | 79 => ⟨S10000x6, .f32⟩
  | 80 => ⟨S_, .f32⟩
  | 81 => ⟨S10000, .f32⟩
  | 82 => ⟨S_, .f32⟩
  | 83 => ⟨S10000, .f32⟩
  | 84 => ⟨S10000, .f32⟩
  | 85 => ⟨S10000x1, .f32⟩
  | 86 => ⟨S10000x6, .f32⟩
  | 87 => ⟨S10000x6, .f32⟩
  | 88 => ⟨S10000x6, .f32⟩
  | 89 => ⟨S_, .f32⟩
  | 90 => ⟨S10000, .f32⟩
  | 91 => ⟨S10000x1, .f32⟩
  | 92 => ⟨S10000x1, .f32⟩
  | 93 => ⟨S10000x6, .f32⟩
  | 94 => ⟨S10000x6, .f32⟩
  | _ => ⟨S10000x3703, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S10000x3703, .f32⟩

abbrev bufTy : (tb : Table) → Fin (tcTables nBuf tb) → BufTy
  | .hbm, ⟨i, _⟩ => hbmTy i
  | _, _ => ⟨S10000x3703, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_c_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_cst : Ref sig .tc := ⟨.hbm, 36, rfl⟩
abbrev main_call1_cst : Ref sig .tc := ⟨.hbm, 37, rfl⟩
abbrev main_call1_cst_0 : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_v8 : Ref sig .tc := ⟨.hbm, 47, rfl⟩
abbrev main_call1_call0_v9 : Ref sig .tc := ⟨.hbm, 48, rfl⟩
abbrev main_call1_call0_c : Ref sig .tc := ⟨.hbm, 49, rfl⟩
abbrev main_call1_call0_v10 : Ref sig .tc := ⟨.hbm, 50, rfl⟩
abbrev main_call1_call0_v11 : Ref sig .tc := ⟨.hbm, 51, rfl⟩
abbrev main_call1_call0_c_0 : Ref sig .tc := ⟨.hbm, 52, rfl⟩
abbrev main_call1_call0_v12 : Ref sig .tc := ⟨.hbm, 53, rfl⟩
abbrev main_call1_call0_v13 : Ref sig .tc := ⟨.hbm, 54, rfl⟩
abbrev main_call1_call0_v14 : Ref sig .tc := ⟨.hbm, 55, rfl⟩
abbrev main_call1_call0_c_1 : Ref sig .tc := ⟨.hbm, 56, rfl⟩
abbrev main_call1_call0_v15 : Ref sig .tc := ⟨.hbm, 57, rfl⟩
abbrev main_call1_call0_v16 : Ref sig .tc := ⟨.hbm, 58, rfl⟩
abbrev main_call1_call0_v17 : Ref sig .tc := ⟨.hbm, 59, rfl⟩
abbrev main_call1_call0_v18 : Ref sig .tc := ⟨.hbm, 60, rfl⟩
abbrev main_call1_call0_call0_v0 : Ref sig .tc := ⟨.hbm, 61, rfl⟩
abbrev main_call1_call0_call0_c : Ref sig .tc := ⟨.hbm, 62, rfl⟩
abbrev main_call1_call0_call0_v1 : Ref sig .tc := ⟨.hbm, 63, rfl⟩
abbrev main_call1_call0_call0_v2 : Ref sig .tc := ⟨.hbm, 64, rfl⟩
abbrev main_call1_call0_call0_v3 : Ref sig .tc := ⟨.hbm, 65, rfl⟩
abbrev main_call1_call0_call0_v4 : Ref sig .tc := ⟨.hbm, 66, rfl⟩
abbrev main_call1_call0_call0_v5 : Ref sig .tc := ⟨.hbm, 67, rfl⟩
abbrev main_call1_call0_call0_v6 : Ref sig .tc := ⟨.hbm, 68, rfl⟩
abbrev main_call1_call0_call0_c_0 : Ref sig .tc := ⟨.hbm, 69, rfl⟩
abbrev main_call1_call0_call0_v7 : Ref sig .tc := ⟨.hbm, 70, rfl⟩
abbrev main_call1_call0_call0_v8 : Ref sig .tc := ⟨.hbm, 71, rfl⟩
abbrev main_call1_call0_call0_c_1 : Ref sig .tc := ⟨.hbm, 72, rfl⟩
abbrev main_call1_call0_call0_v9 : Ref sig .tc := ⟨.hbm, 73, rfl⟩
abbrev main_call1_call0_call0_v10 : Ref sig .tc := ⟨.hbm, 74, rfl⟩
abbrev main_call1_call0_call0_v11 : Ref sig .tc := ⟨.hbm, 75, rfl⟩
abbrev main_call1_call0_call0_v12 : Ref sig .tc := ⟨.hbm, 76, rfl⟩
abbrev main_call1_call0_call0_v13 : Ref sig .tc := ⟨.hbm, 77, rfl⟩
abbrev main_call1_call0_call0_c_2 : Ref sig .tc := ⟨.hbm, 78, rfl⟩
abbrev main_call1_call0_call0_v14 : Ref sig .tc := ⟨.hbm, 79, rfl⟩
abbrev main_call1_call0_call0_v15 : Ref sig .tc := ⟨.hbm, 80, rfl⟩
abbrev main_call1_call0_call0_c_3 : Ref sig .tc := ⟨.hbm, 81, rfl⟩
abbrev main_call1_call0_call0_v16 : Ref sig .tc := ⟨.hbm, 82, rfl⟩
abbrev main_call1_call0_call0_v17 : Ref sig .tc := ⟨.hbm, 83, rfl⟩
abbrev main_call1_call0_call0_v18 : Ref sig .tc := ⟨.hbm, 84, rfl⟩
abbrev main_call1_call0_call0_v19 : Ref sig .tc := ⟨.hbm, 85, rfl⟩
abbrev main_call1_call0_call0_v20 : Ref sig .tc := ⟨.hbm, 86, rfl⟩
abbrev main_call1_call0_call0_c_4 : Ref sig .tc := ⟨.hbm, 87, rfl⟩
abbrev main_call1_call0_call0_v21 : Ref sig .tc := ⟨.hbm, 88, rfl⟩
abbrev main_call1_call0_call0_v22 : Ref sig .tc := ⟨.hbm, 89, rfl⟩
abbrev main_call1_call0_call0_c_5 : Ref sig .tc := ⟨.hbm, 90, rfl⟩
abbrev main_call1_call0_call0_v23 : Ref sig .tc := ⟨.hbm, 91, rfl⟩
abbrev main_call1_call0_call0_v24 : Ref sig .tc := ⟨.hbm, 92, rfl⟩
abbrev main_call1_call0_call0_v25 : Ref sig .tc := ⟨.hbm, 93, rfl⟩
abbrev main_call1_call0_call0_v26 : Ref sig .tc := ⟨.hbm, 94, rfl⟩
abbrev main_call1_call0_call0_v27 : Ref sig .tc := ⟨.hbm, 95, rfl⟩
abbrev main_call1_call0_call0_c_6 : Ref sig .tc := ⟨.hbm, 96, rfl⟩
abbrev main_call1_call0_call0_v28 : Ref sig .tc := ⟨.hbm, 97, rfl⟩
abbrev main_call1_call0_call0_v29 : Ref sig .tc := ⟨.hbm, 98, rfl⟩
abbrev main_call1_call0_call0_c_7 : Ref sig .tc := ⟨.hbm, 99, rfl⟩
abbrev main_call1_call0_call0_v30 : Ref sig .tc := ⟨.hbm, 100, rfl⟩
abbrev main_call1_call0_call0_v31 : Ref sig .tc := ⟨.hbm, 101, rfl⟩
abbrev main_call1_call0_call0_v32 : Ref sig .tc := ⟨.hbm, 102, rfl⟩
abbrev main_call1_call0_call0_v33 : Ref sig .tc := ⟨.hbm, 103, rfl⟩
abbrev main_call1_call0_call0_v34 : Ref sig .tc := ⟨.hbm, 104, rfl⟩
abbrev main_call1_call0_call0_v35 : Ref sig .tc := ⟨.hbm, 105, rfl⟩
abbrev main_call1_call0_call0_v36 : Ref sig .tc := ⟨.hbm, 106, rfl⟩
abbrev main_call1_call0_call0_v37 : Ref sig .tc := ⟨.hbm, 107, rfl⟩
abbrev main_call1_call0_call0_c_8 : Ref sig .tc := ⟨.hbm, 108, rfl⟩
abbrev main_call1_call0_call0_v38 : Ref sig .tc := ⟨.hbm, 109, rfl⟩
abbrev main_call1_call0_call0_v39 : Ref sig .tc := ⟨.hbm, 110, rfl⟩
abbrev main_call1_call0_call0_v40 : Ref sig .tc := ⟨.hbm, 111, rfl⟩
abbrev main_call1_call0_call0_c_9 : Ref sig .tc := ⟨.hbm, 112, rfl⟩
abbrev main_call1_call0_call0_v41 : Ref sig .tc := ⟨.hbm, 113, rfl⟩
abbrev main_call1_call0_call0_v42 : Ref sig .tc := ⟨.hbm, 114, rfl⟩
abbrev main_call1_call0_call0_c_10 : Ref sig .tc := ⟨.hbm, 115, rfl⟩
abbrev main_call1_call0_call0_v43 : Ref sig .tc := ⟨.hbm, 116, rfl⟩
abbrev main_call1_call0_call0_v44 : Ref sig .tc := ⟨.hbm, 117, rfl⟩
abbrev main_call1_call0_call0_v45 : Ref sig .tc := ⟨.hbm, 118, rfl⟩
abbrev main_call1_call0_call0_v46 : Ref sig .tc := ⟨.hbm, 119, rfl⟩
abbrev main_call1_call0_call0_v47 : Ref sig .tc := ⟨.hbm, 120, rfl⟩
abbrev main_call1_call0_call0_c_11 : Ref sig .tc := ⟨.hbm, 121, rfl⟩
abbrev main_call1_call0_call0_v48 : Ref sig .tc := ⟨.hbm, 122, rfl⟩
abbrev main_call1_call0_call0_v49 : Ref sig .tc := ⟨.hbm, 123, rfl⟩
abbrev main_call1_call0_call0_c_12 : Ref sig .tc := ⟨.hbm, 124, rfl⟩
abbrev main_call1_call0_call0_v50 : Ref sig .tc := ⟨.hbm, 125, rfl⟩
abbrev main_call1_call0_call0_v51 : Ref sig .tc := ⟨.hbm, 126, rfl⟩
abbrev main_call1_call0_call0_v52 : Ref sig .tc := ⟨.hbm, 127, rfl⟩
abbrev main_call1_call0_call0_v53 : Ref sig .tc := ⟨.hbm, 128, rfl⟩
abbrev main_call1_call0_call0_v54 : Ref sig .tc := ⟨.hbm, 129, rfl⟩
abbrev main_call1_call0_call0_c_13 : Ref sig .tc := ⟨.hbm, 130, rfl⟩
abbrev main_call1_call0_call0_v55 : Ref sig .tc := ⟨.hbm, 131, rfl⟩
abbrev main_call1_call0_call0_v56 : Ref sig .tc := ⟨.hbm, 132, rfl⟩
abbrev main_call1_call0_call0_c_14 : Ref sig .tc := ⟨.hbm, 133, rfl⟩
abbrev main_call1_call0_call0_v57 : Ref sig .tc := ⟨.hbm, 134, rfl⟩
abbrev main_call1_call0_call0_v58 : Ref sig .tc := ⟨.hbm, 135, rfl⟩
abbrev main_call1_call0_call0_v59 : Ref sig .tc := ⟨.hbm, 136, rfl⟩
abbrev main_call1_call0_call0_v60 : Ref sig .tc := ⟨.hbm, 137, rfl⟩
abbrev main_call1_call0_call0_v61 : Ref sig .tc := ⟨.hbm, 138, rfl⟩
abbrev main_call1_call0_call0_c_15 : Ref sig .tc := ⟨.hbm, 139, rfl⟩
abbrev main_call1_call0_call0_v62 : Ref sig .tc := ⟨.hbm, 140, rfl⟩
abbrev main_call1_call0_call0_v63 : Ref sig .tc := ⟨.hbm, 141, rfl⟩
abbrev main_call1_call0_call0_c_16 : Ref sig .tc := ⟨.hbm, 142, rfl⟩
abbrev main_call1_call0_call0_v64 : Ref sig .tc := ⟨.hbm, 143, rfl⟩
abbrev main_call1_call0_call0_v65 : Ref sig .tc := ⟨.hbm, 144, rfl⟩
abbrev main_call1_call0_call0_v66 : Ref sig .tc := ⟨.hbm, 145, rfl⟩
abbrev main_call1_call0_call0_v67 : Ref sig .tc := ⟨.hbm, 146, rfl⟩
abbrev main_call1_call0_call0_v68 : Ref sig .tc := ⟨.hbm, 147, rfl⟩
abbrev main_call1_call0_call0_v69 : Ref sig .tc := ⟨.hbm, 148, rfl⟩
abbrev main_call1_call0_call0_v70 : Ref sig .tc := ⟨.hbm, 149, rfl⟩
abbrev main_call1_call0_call0_v71 : Ref sig .tc := ⟨.hbm, 150, rfl⟩
abbrev main_call1_call0_call0_c_17 : Ref sig .tc := ⟨.hbm, 151, rfl⟩
abbrev main_call1_call0_call0_v72 : Ref sig .tc := ⟨.hbm, 152, rfl⟩
abbrev main_call1_call0_call0_v73 : Ref sig .tc := ⟨.hbm, 153, rfl⟩
abbrev main_call1_call0_call0_v74 : Ref sig .tc := ⟨.hbm, 154, rfl⟩
abbrev main_call1_call0_call0_c_18 : Ref sig .tc := ⟨.hbm, 155, rfl⟩
abbrev main_call1_call0_call0_v75 : Ref sig .tc := ⟨.hbm, 156, rfl⟩
abbrev main_call1_call0_call0_v76 : Ref sig .tc := ⟨.hbm, 157, rfl⟩
abbrev main_call1_call0_call0_c_19 : Ref sig .tc := ⟨.hbm, 158, rfl⟩
abbrev main_call1_call0_call0_v77 : Ref sig .tc := ⟨.hbm, 159, rfl⟩
abbrev main_call1_call0_call0_v78 : Ref sig .tc := ⟨.hbm, 160, rfl⟩
abbrev main_call1_call0_call0_v79 : Ref sig .tc := ⟨.hbm, 161, rfl⟩
abbrev main_call1_call0_call0_v80 : Ref sig .tc := ⟨.hbm, 162, rfl⟩
abbrev main_call1_call0_call0_v81 : Ref sig .tc := ⟨.hbm, 163, rfl⟩
abbrev main_call1_call0_call0_c_20 : Ref sig .tc := ⟨.hbm, 164, rfl⟩
abbrev main_call1_call0_call0_v82 : Ref sig .tc := ⟨.hbm, 165, rfl⟩
abbrev main_call1_call0_call0_v83 : Ref sig .tc := ⟨.hbm, 166, rfl⟩
abbrev main_call1_call0_call0_c_21 : Ref sig .tc := ⟨.hbm, 167, rfl⟩
abbrev main_call1_call0_call0_v84 : Ref sig .tc := ⟨.hbm, 168, rfl⟩
abbrev main_call1_call0_call0_v85 : Ref sig .tc := ⟨.hbm, 169, rfl⟩
abbrev main_call1_call0_call0_v86 : Ref sig .tc := ⟨.hbm, 170, rfl⟩
abbrev main_call1_call0_call0_v87 : Ref sig .tc := ⟨.hbm, 171, rfl⟩
abbrev main_call1_call0_call0_v88 : Ref sig .tc := ⟨.hbm, 172, rfl⟩
abbrev main_call1_call0_call0_c_22 : Ref sig .tc := ⟨.hbm, 173, rfl⟩
abbrev main_call1_call0_call0_v89 : Ref sig .tc := ⟨.hbm, 174, rfl⟩
abbrev main_call1_call0_call0_v90 : Ref sig .tc := ⟨.hbm, 175, rfl⟩
abbrev main_call1_call0_call0_c_23 : Ref sig .tc := ⟨.hbm, 176, rfl⟩
abbrev main_call1_call0_call0_v91 : Ref sig .tc := ⟨.hbm, 177, rfl⟩
abbrev main_call1_call0_call0_v92 : Ref sig .tc := ⟨.hbm, 178, rfl⟩
abbrev main_call1_call0_call0_v93 : Ref sig .tc := ⟨.hbm, 179, rfl⟩
abbrev main_call1_call0_call0_v94 : Ref sig .tc := ⟨.hbm, 180, rfl⟩
abbrev main_call1_call0_call0_v95 : Ref sig .tc := ⟨.hbm, 181, rfl⟩
abbrev main_call1_call0_call0_c_24 : Ref sig .tc := ⟨.hbm, 182, rfl⟩
abbrev main_call1_call0_call0_v96 : Ref sig .tc := ⟨.hbm, 183, rfl⟩
abbrev main_call1_call0_call0_v97 : Ref sig .tc := ⟨.hbm, 184, rfl⟩
abbrev main_call1_call0_call0_c_25 : Ref sig .tc := ⟨.hbm, 185, rfl⟩
abbrev main_call1_call0_call0_v98 : Ref sig .tc := ⟨.hbm, 186, rfl⟩
abbrev main_call1_call0_call0_v99 : Ref sig .tc := ⟨.hbm, 187, rfl⟩
abbrev main_call1_call0_call0_v100 : Ref sig .tc := ⟨.hbm, 188, rfl⟩
abbrev main_call1_call0_call0_v101 : Ref sig .tc := ⟨.hbm, 189, rfl⟩
abbrev main_call1_call0_call0_v102 : Ref sig .tc := ⟨.hbm, 190, rfl⟩
abbrev main_call1_call0_call0_v103 : Ref sig .tc := ⟨.hbm, 191, rfl⟩
abbrev main_call1_call0_call0_v104 : Ref sig .tc := ⟨.hbm, 192, rfl⟩
abbrev main_call1_call0_call0_v105 : Ref sig .tc := ⟨.hbm, 193, rfl⟩
abbrev main_call1_call0_call0_c_26 : Ref sig .tc := ⟨.hbm, 194, rfl⟩
abbrev main_call1_call0_call0_v106 : Ref sig .tc := ⟨.hbm, 195, rfl⟩
abbrev main_call1_call0_call0_v107 : Ref sig .tc := ⟨.hbm, 196, rfl⟩
abbrev main_call1_call0_call0_v108 : Ref sig .tc := ⟨.hbm, 197, rfl⟩
abbrev main_call1_call0_call0_c_27 : Ref sig .tc := ⟨.hbm, 198, rfl⟩
abbrev main_call1_call0_call0_v109 : Ref sig .tc := ⟨.hbm, 199, rfl⟩
abbrev main_call1_call0_call0_v110 : Ref sig .tc := ⟨.hbm, 200, rfl⟩
abbrev main_call1_call0_call0_c_28 : Ref sig .tc := ⟨.hbm, 201, rfl⟩
abbrev main_call1_call0_call0_v111 : Ref sig .tc := ⟨.hbm, 202, rfl⟩
abbrev main_call1_call0_call0_v112 : Ref sig .tc := ⟨.hbm, 203, rfl⟩
abbrev main_call1_call0_call0_v113 : Ref sig .tc := ⟨.hbm, 204, rfl⟩
abbrev main_call1_call0_call0_v114 : Ref sig .tc := ⟨.hbm, 205, rfl⟩
abbrev main_call1_call0_call0_v115 : Ref sig .tc := ⟨.hbm, 206, rfl⟩
abbrev main_call1_call0_call0_c_29 : Ref sig .tc := ⟨.hbm, 207, rfl⟩
abbrev main_call1_call0_call0_v116 : Ref sig .tc := ⟨.hbm, 208, rfl⟩
abbrev main_call1_call0_call0_v117 : Ref sig .tc := ⟨.hbm, 209, rfl⟩
abbrev main_call1_call0_call0_c_30 : Ref sig .tc := ⟨.hbm, 210, rfl⟩
abbrev main_call1_call0_call0_v118 : Ref sig .tc := ⟨.hbm, 211, rfl⟩
abbrev main_call1_call0_call0_v119 : Ref sig .tc := ⟨.hbm, 212, rfl⟩
abbrev main_call1_call0_call0_v120 : Ref sig .tc := ⟨.hbm, 213, rfl⟩
abbrev main_call1_call0_call0_v121 : Ref sig .tc := ⟨.hbm, 214, rfl⟩
abbrev main_call1_call0_call0_v122 : Ref sig .tc := ⟨.hbm, 215, rfl⟩
abbrev main_call1_call0_call0_c_31 : Ref sig .tc := ⟨.hbm, 216, rfl⟩
abbrev main_call1_call0_call0_v123 : Ref sig .tc := ⟨.hbm, 217, rfl⟩
abbrev main_call1_call0_call0_v124 : Ref sig .tc := ⟨.hbm, 218, rfl⟩
abbrev main_call1_call0_call0_c_32 : Ref sig .tc := ⟨.hbm, 219, rfl⟩
abbrev main_call1_call0_call0_v125 : Ref sig .tc := ⟨.hbm, 220, rfl⟩
abbrev main_call1_call0_call0_v126 : Ref sig .tc := ⟨.hbm, 221, rfl⟩
abbrev main_call1_call0_call0_v127 : Ref sig .tc := ⟨.hbm, 222, rfl⟩
abbrev main_call1_call0_call0_v128 : Ref sig .tc := ⟨.hbm, 223, rfl⟩
abbrev main_call1_call0_call0_v129 : Ref sig .tc := ⟨.hbm, 224, rfl⟩
abbrev main_call1_call0_call0_c_33 : Ref sig .tc := ⟨.hbm, 225, rfl⟩
abbrev main_call1_call0_call0_v130 : Ref sig .tc := ⟨.hbm, 226, rfl⟩
abbrev main_call1_call0_call0_v131 : Ref sig .tc := ⟨.hbm, 227, rfl⟩
abbrev main_call1_call0_call0_c_34 : Ref sig .tc := ⟨.hbm, 228, rfl⟩
abbrev main_call1_call0_call0_v132 : Ref sig .tc := ⟨.hbm, 229, rfl⟩
abbrev main_call1_call0_call0_v133 : Ref sig .tc := ⟨.hbm, 230, rfl⟩
abbrev main_call1_call0_call0_v134 : Ref sig .tc := ⟨.hbm, 231, rfl⟩
abbrev main_call1_call0_call0_v135 : Ref sig .tc := ⟨.hbm, 232, rfl⟩
abbrev main_call1_call0_call0_v136 : Ref sig .tc := ⟨.hbm, 233, rfl⟩
abbrev main_call1_call0_call0_v137 : Ref sig .tc := ⟨.hbm, 234, rfl⟩
abbrev main_call1_call0_call0_v138 : Ref sig .tc := ⟨.hbm, 235, rfl⟩
abbrev main_call1_call0_call0_v139 : Ref sig .tc := ⟨.hbm, 236, rfl⟩
abbrev main_call1_call0_call0_c_35 : Ref sig .tc := ⟨.hbm, 237, rfl⟩
abbrev main_call1_call0_call0_v140 : Ref sig .tc := ⟨.hbm, 238, rfl⟩
abbrev main_call1_call0_call0_v141 : Ref sig .tc := ⟨.hbm, 239, rfl⟩
abbrev main_call1_call0_call0_v142 : Ref sig .tc := ⟨.hbm, 240, rfl⟩
abbrev main_call1_call0_call0_c_36 : Ref sig .tc := ⟨.hbm, 241, rfl⟩
abbrev main_call1_call0_call0_v143 : Ref sig .tc := ⟨.hbm, 242, rfl⟩
abbrev main_call1_call0_call0_v144 : Ref sig .tc := ⟨.hbm, 243, rfl⟩
abbrev main_call1_call0_call0_c_37 : Ref sig .tc := ⟨.hbm, 244, rfl⟩
abbrev main_call1_call0_call0_v145 : Ref sig .tc := ⟨.hbm, 245, rfl⟩
abbrev main_call1_call0_call0_v146 : Ref sig .tc := ⟨.hbm, 246, rfl⟩
abbrev main_call1_call0_call0_v147 : Ref sig .tc := ⟨.hbm, 247, rfl⟩
abbrev main_call1_call0_call0_v148 : Ref sig .tc := ⟨.hbm, 248, rfl⟩
abbrev main_call1_call0_call0_v149 : Ref sig .tc := ⟨.hbm, 249, rfl⟩
abbrev main_call1_call0_call0_c_38 : Ref sig .tc := ⟨.hbm, 250, rfl⟩
abbrev main_call1_call0_call0_v150 : Ref sig .tc := ⟨.hbm, 251, rfl⟩
abbrev main_call1_call0_call0_v151 : Ref sig .tc := ⟨.hbm, 252, rfl⟩
abbrev main_call1_call0_call0_c_39 : Ref sig .tc := ⟨.hbm, 253, rfl⟩
abbrev main_call1_call0_call0_v152 : Ref sig .tc := ⟨.hbm, 254, rfl⟩
abbrev main_call1_call0_call0_v153 : Ref sig .tc := ⟨.hbm, 255, rfl⟩
abbrev main_call1_call0_call0_v154 : Ref sig .tc := ⟨.hbm, 256, rfl⟩
abbrev main_call1_call0_call0_v155 : Ref sig .tc := ⟨.hbm, 257, rfl⟩
abbrev main_call1_call0_call0_v156 : Ref sig .tc := ⟨.hbm, 258, rfl⟩
abbrev main_call1_call0_call0_c_40 : Ref sig .tc := ⟨.hbm, 259, rfl⟩
abbrev main_call1_call0_call0_v157 : Ref sig .tc := ⟨.hbm, 260, rfl⟩
abbrev main_call1_call0_call0_v158 : Ref sig .tc := ⟨.hbm, 261, rfl⟩
abbrev main_call1_call0_call0_c_41 : Ref sig .tc := ⟨.hbm, 262, rfl⟩
abbrev main_call1_call0_call0_v159 : Ref sig .tc := ⟨.hbm, 263, rfl⟩
abbrev main_call1_call0_call0_v160 : Ref sig .tc := ⟨.hbm, 264, rfl⟩
abbrev main_call1_call0_call0_v161 : Ref sig .tc := ⟨.hbm, 265, rfl⟩
abbrev main_call1_call0_call0_v162 : Ref sig .tc := ⟨.hbm, 266, rfl⟩
abbrev main_call1_call0_call0_v163 : Ref sig .tc := ⟨.hbm, 267, rfl⟩
abbrev main_call1_call0_call0_c_42 : Ref sig .tc := ⟨.hbm, 268, rfl⟩
abbrev main_call1_call0_call0_v164 : Ref sig .tc := ⟨.hbm, 269, rfl⟩
abbrev main_call1_call0_call0_v165 : Ref sig .tc := ⟨.hbm, 270, rfl⟩
abbrev main_call1_call0_call0_c_43 : Ref sig .tc := ⟨.hbm, 271, rfl⟩
abbrev main_call1_call0_call0_v166 : Ref sig .tc := ⟨.hbm, 272, rfl⟩
abbrev main_call1_call0_call0_v167 : Ref sig .tc := ⟨.hbm, 273, rfl⟩
abbrev main_call1_call0_call0_v168 : Ref sig .tc := ⟨.hbm, 274, rfl⟩
abbrev main_call1_call0_call0_v169 : Ref sig .tc := ⟨.hbm, 275, rfl⟩
abbrev main_call1_call0_call0_v170 : Ref sig .tc := ⟨.hbm, 276, rfl⟩
abbrev main_call1_call0_v19_0 : Ref sig .tc := ⟨.hbm, 277, rfl⟩
abbrev main_call1_call0_call0_v172 : Ref sig .tc := ⟨.hbm, 278, rfl⟩
abbrev main_call1_call0_call0_v173 : Ref sig .tc := ⟨.hbm, 279, rfl⟩
abbrev main_call1_call0_call0_c_44 : Ref sig .tc := ⟨.hbm, 280, rfl⟩
abbrev main_call1_call0_call0_v174 : Ref sig .tc := ⟨.hbm, 281, rfl⟩
abbrev main_call1_call0_v19_1 : Ref sig .tc := ⟨.hbm, 282, rfl⟩
abbrev main_call1_call0_v20 : Ref sig .tc := ⟨.hbm, 283, rfl⟩
abbrev main_call1_call0_c_2 : Ref sig .tc := ⟨.hbm, 284, rfl⟩
abbrev main_call1_call0_v21 : Ref sig .tc := ⟨.hbm, 285, rfl⟩
abbrev main_call1_call0_v22 : Ref sig .tc := ⟨.hbm, 286, rfl⟩
abbrev main_call1_call0_c_3 : Ref sig .tc := ⟨.hbm, 287, rfl⟩
abbrev main_call1_call0_v23 : Ref sig .tc := ⟨.hbm, 288, rfl⟩
abbrev main_call1_call0_v24 : Ref sig .tc := ⟨.hbm, 289, rfl⟩
abbrev main_call1_call0_v25 : Ref sig .tc := ⟨.hbm, 290, rfl⟩
abbrev main_call1_call0_cst : Ref sig .tc := ⟨.hbm, 291, rfl⟩
abbrev main_call1_call0_v26 : Ref sig .tc := ⟨.hbm, 292, rfl⟩
abbrev main_call1_call0_v27 : Ref sig .tc := ⟨.hbm, 293, rfl⟩
abbrev main_call1_call0_v28 : Ref sig .tc := ⟨.hbm, 294, rfl⟩
abbrev main_call1_call0_v29 : Ref sig .tc := ⟨.hbm, 295, rfl⟩
abbrev main_call1_call0_v30 : Ref sig .tc := ⟨.hbm, 296, rfl⟩
abbrev main_call1_call0_v31 : Ref sig .tc := ⟨.hbm, 297, rfl⟩
abbrev main_call1_call0_v32 : Ref sig .tc := ⟨.hbm, 298, rfl⟩
abbrev main_call1_call0_v33 : Ref sig .tc := ⟨.hbm, 299, rfl⟩
abbrev main_call1_v0 : Ref sig .tc := ⟨.hbm, 300, rfl⟩
abbrev main_call1_v1 : Ref sig .tc := ⟨.hbm, 301, rfl⟩
abbrev main_v20 : Ref sig .tc := ⟨.hbm, 302, rfl⟩
abbrev main_cst_5 : Ref sig .tc := ⟨.hbm, 303, rfl⟩
abbrev main_v21 : Ref sig .tc := ⟨.hbm, 304, rfl⟩
abbrev main_v22 : Ref sig .tc := ⟨.hbm, 305, rfl⟩
abbrev main_cst_6 : Ref sig .tc := ⟨.hbm, 306, rfl⟩
abbrev main_v23 : Ref sig .tc := ⟨.hbm, 307, rfl⟩
abbrev main_v24 : Ref sig .tc := ⟨.hbm, 308, rfl⟩
abbrev main_v25 : Ref sig .tc := ⟨.hbm, 309, rfl⟩
abbrev main_v26 : Ref sig .tc := ⟨.hbm, 310, rfl⟩
abbrev main_v27 : Ref sig .tc := ⟨.hbm, 311, rfl⟩
abbrev main_v28 : Ref sig .tc := ⟨.hbm, 312, rfl⟩
abbrev main_v29 : Ref sig .tc := ⟨.hbm, 313, rfl⟩
abbrev main_cst_7 : Ref sig .tc := ⟨.hbm, 314, rfl⟩
abbrev main_call3_cst : Ref sig .tc := ⟨.hbm, 315, rfl⟩
abbrev main_call3_cst_0 : Ref sig .tc := ⟨.hbm, 316, rfl⟩
abbrev main_call3_call0_v0 : Ref sig .tc := ⟨.hbm, 317, rfl⟩
abbrev main_call3_call0_v1 : Ref sig .tc := ⟨.hbm, 318, rfl⟩
abbrev main_call3_call0_v2 : Ref sig .tc := ⟨.hbm, 319, rfl⟩
abbrev main_call3_call0_v3 : Ref sig .tc := ⟨.hbm, 320, rfl⟩
abbrev main_call3_call0_v4 : Ref sig .tc := ⟨.hbm, 321, rfl⟩
abbrev main_call3_call0_v5 : Ref sig .tc := ⟨.hbm, 322, rfl⟩
abbrev main_call3_call0_v6 : Ref sig .tc := ⟨.hbm, 323, rfl⟩
abbrev main_call3_call0_v7 : Ref sig .tc := ⟨.hbm, 324, rfl⟩
abbrev main_call3_call0_v8 : Ref sig .tc := ⟨.hbm, 325, rfl⟩
abbrev main_call3_call0_v9 : Ref sig .tc := ⟨.hbm, 326, rfl⟩
abbrev main_call3_call0_c : Ref sig .tc := ⟨.hbm, 327, rfl⟩
abbrev main_call3_call0_v10 : Ref sig .tc := ⟨.hbm, 328, rfl⟩
abbrev main_call3_call0_v11 : Ref sig .tc := ⟨.hbm, 329, rfl⟩
abbrev main_call3_call0_c_0 : Ref sig .tc := ⟨.hbm, 330, rfl⟩
abbrev main_call3_call0_v12 : Ref sig .tc := ⟨.hbm, 331, rfl⟩
abbrev main_call3_call0_v13 : Ref sig .tc := ⟨.hbm, 332, rfl⟩
abbrev main_call3_call0_v14 : Ref sig .tc := ⟨.hbm, 333, rfl⟩
abbrev main_call3_call0_c_1 : Ref sig .tc := ⟨.hbm, 334, rfl⟩
abbrev main_call3_call0_v15 : Ref sig .tc := ⟨.hbm, 335, rfl⟩
abbrev main_call3_call0_v16 : Ref sig .tc := ⟨.hbm, 336, rfl⟩
abbrev main_call3_call0_v17 : Ref sig .tc := ⟨.hbm, 337, rfl⟩
abbrev main_call3_call0_v18 : Ref sig .tc := ⟨.hbm, 338, rfl⟩
abbrev main_call3_call0_call0_v0 : Ref sig .tc := ⟨.hbm, 339, rfl⟩
abbrev main_call3_call0_call0_c : Ref sig .tc := ⟨.hbm, 340, rfl⟩
abbrev main_call3_call0_call0_v1 : Ref sig .tc := ⟨.hbm, 341, rfl⟩
abbrev main_call3_call0_call0_v2 : Ref sig .tc := ⟨.hbm, 342, rfl⟩
abbrev main_call3_call0_call0_v3 : Ref sig .tc := ⟨.hbm, 343, rfl⟩
abbrev main_call3_call0_call0_v4 : Ref sig .tc := ⟨.hbm, 344, rfl⟩
abbrev main_call3_call0_call0_v5 : Ref sig .tc := ⟨.hbm, 345, rfl⟩
abbrev main_call3_call0_call0_v6 : Ref sig .tc := ⟨.hbm, 346, rfl⟩
abbrev main_call3_call0_call0_c_0 : Ref sig .tc := ⟨.hbm, 347, rfl⟩
abbrev main_call3_call0_call0_v7 : Ref sig .tc := ⟨.hbm, 348, rfl⟩
abbrev main_call3_call0_call0_v8 : Ref sig .tc := ⟨.hbm, 349, rfl⟩
abbrev main_call3_call0_call0_c_1 : Ref sig .tc := ⟨.hbm, 350, rfl⟩
abbrev main_call3_call0_call0_v9 : Ref sig .tc := ⟨.hbm, 351, rfl⟩
abbrev main_call3_call0_call0_v10 : Ref sig .tc := ⟨.hbm, 352, rfl⟩
abbrev main_call3_call0_call0_v11 : Ref sig .tc := ⟨.hbm, 353, rfl⟩
abbrev main_call3_call0_call0_v12 : Ref sig .tc := ⟨.hbm, 354, rfl⟩
abbrev main_call3_call0_call0_v13 : Ref sig .tc := ⟨.hbm, 355, rfl⟩
abbrev main_call3_call0_call0_c_2 : Ref sig .tc := ⟨.hbm, 356, rfl⟩
abbrev main_call3_call0_call0_v14 : Ref sig .tc := ⟨.hbm, 357, rfl⟩
abbrev main_call3_call0_call0_v15 : Ref sig .tc := ⟨.hbm, 358, rfl⟩
abbrev main_call3_call0_call0_c_3 : Ref sig .tc := ⟨.hbm, 359, rfl⟩
abbrev main_call3_call0_call0_v16 : Ref sig .tc := ⟨.hbm, 360, rfl⟩
abbrev main_call3_call0_call0_v17 : Ref sig .tc := ⟨.hbm, 361, rfl⟩
abbrev main_call3_call0_call0_v18 : Ref sig .tc := ⟨.hbm, 362, rfl⟩
abbrev main_call3_call0_call0_v19 : Ref sig .tc := ⟨.hbm, 363, rfl⟩
abbrev main_call3_call0_call0_v20 : Ref sig .tc := ⟨.hbm, 364, rfl⟩
abbrev main_call3_call0_call0_c_4 : Ref sig .tc := ⟨.hbm, 365, rfl⟩
abbrev main_call3_call0_call0_v21 : Ref sig .tc := ⟨.hbm, 366, rfl⟩
abbrev main_call3_call0_call0_v22 : Ref sig .tc := ⟨.hbm, 367, rfl⟩
abbrev main_call3_call0_call0_c_5 : Ref sig .tc := ⟨.hbm, 368, rfl⟩
abbrev main_call3_call0_call0_v23 : Ref sig .tc := ⟨.hbm, 369, rfl⟩
abbrev main_call3_call0_call0_v24 : Ref sig .tc := ⟨.hbm, 370, rfl⟩
abbrev main_call3_call0_call0_v25 : Ref sig .tc := ⟨.hbm, 371, rfl⟩
abbrev main_call3_call0_call0_v26 : Ref sig .tc := ⟨.hbm, 372, rfl⟩
abbrev main_call3_call0_call0_v27 : Ref sig .tc := ⟨.hbm, 373, rfl⟩
abbrev main_call3_call0_call0_c_6 : Ref sig .tc := ⟨.hbm, 374, rfl⟩
abbrev main_call3_call0_call0_v28 : Ref sig .tc := ⟨.hbm, 375, rfl⟩
abbrev main_call3_call0_call0_v29 : Ref sig .tc := ⟨.hbm, 376, rfl⟩
abbrev main_call3_call0_call0_c_7 : Ref sig .tc := ⟨.hbm, 377, rfl⟩
abbrev main_call3_call0_call0_v30 : Ref sig .tc := ⟨.hbm, 378, rfl⟩
abbrev main_call3_call0_call0_v31 : Ref sig .tc := ⟨.hbm, 379, rfl⟩
abbrev main_call3_call0_call0_v32 : Ref sig .tc := ⟨.hbm, 380, rfl⟩
abbrev main_call3_call0_call0_v33 : Ref sig .tc := ⟨.hbm, 381, rfl⟩
abbrev main_call3_call0_call0_v34 : Ref sig .tc := ⟨.hbm, 382, rfl⟩
abbrev main_call3_call0_call0_v35 : Ref sig .tc := ⟨.hbm, 383, rfl⟩
abbrev main_call3_call0_call0_v36 : Ref sig .tc := ⟨.hbm, 384, rfl⟩
abbrev main_call3_call0_call0_v37 : Ref sig .tc := ⟨.hbm, 385, rfl⟩
abbrev main_call3_call0_call0_c_8 : Ref sig .tc := ⟨.hbm, 386, rfl⟩
abbrev main_call3_call0_call0_v38 : Ref sig .tc := ⟨.hbm, 387, rfl⟩
abbrev main_call3_call0_call0_v39 : Ref sig .tc := ⟨.hbm, 388, rfl⟩
abbrev main_call3_call0_call0_v40 : Ref sig .tc := ⟨.hbm, 389, rfl⟩
abbrev main_call3_call0_call0_c_9 : Ref sig .tc := ⟨.hbm, 390, rfl⟩
abbrev main_call3_call0_call0_v41 : Ref sig .tc := ⟨.hbm, 391, rfl⟩
abbrev main_call3_call0_call0_v42 : Ref sig .tc := ⟨.hbm, 392, rfl⟩
abbrev main_call3_call0_call0_c_10 : Ref sig .tc := ⟨.hbm, 393, rfl⟩
abbrev main_call3_call0_call0_v43 : Ref sig .tc := ⟨.hbm, 394, rfl⟩
abbrev main_call3_call0_call0_v44 : Ref sig .tc := ⟨.hbm, 395, rfl⟩
abbrev main_call3_call0_call0_v45 : Ref sig .tc := ⟨.hbm, 396, rfl⟩
abbrev main_call3_call0_call0_v46 : Ref sig .tc := ⟨.hbm, 397, rfl⟩
abbrev main_call3_call0_call0_v47 : Ref sig .tc := ⟨.hbm, 398, rfl⟩
abbrev main_call3_call0_call0_c_11 : Ref sig .tc := ⟨.hbm, 399, rfl⟩
abbrev main_call3_call0_call0_v48 : Ref sig .tc := ⟨.hbm, 400, rfl⟩
abbrev main_call3_call0_call0_v49 : Ref sig .tc := ⟨.hbm, 401, rfl⟩
abbrev main_call3_call0_call0_c_12 : Ref sig .tc := ⟨.hbm, 402, rfl⟩
abbrev main_call3_call0_call0_v50 : Ref sig .tc := ⟨.hbm, 403, rfl⟩
abbrev main_call3_call0_call0_v51 : Ref sig .tc := ⟨.hbm, 404, rfl⟩
abbrev main_call3_call0_call0_v52 : Ref sig .tc := ⟨.hbm, 405, rfl⟩
abbrev main_call3_call0_call0_v53 : Ref sig .tc := ⟨.hbm, 406, rfl⟩
abbrev main_call3_call0_call0_v54 : Ref sig .tc := ⟨.hbm, 407, rfl⟩
abbrev main_call3_call0_call0_c_13 : Ref sig .tc := ⟨.hbm, 408, rfl⟩
abbrev main_call3_call0_call0_v55 : Ref sig .tc := ⟨.hbm, 409, rfl⟩
abbrev main_call3_call0_call0_v56 : Ref sig .tc := ⟨.hbm, 410, rfl⟩
abbrev main_call3_call0_call0_c_14 : Ref sig .tc := ⟨.hbm, 411, rfl⟩
abbrev main_call3_call0_call0_v57 : Ref sig .tc := ⟨.hbm, 412, rfl⟩
abbrev main_call3_call0_call0_v58 : Ref sig .tc := ⟨.hbm, 413, rfl⟩
abbrev main_call3_call0_call0_v59 : Ref sig .tc := ⟨.hbm, 414, rfl⟩
abbrev main_call3_call0_call0_v60 : Ref sig .tc := ⟨.hbm, 415, rfl⟩
abbrev main_call3_call0_call0_v61 : Ref sig .tc := ⟨.hbm, 416, rfl⟩
abbrev main_call3_call0_call0_c_15 : Ref sig .tc := ⟨.hbm, 417, rfl⟩
abbrev main_call3_call0_call0_v62 : Ref sig .tc := ⟨.hbm, 418, rfl⟩
abbrev main_call3_call0_call0_v63 : Ref sig .tc := ⟨.hbm, 419, rfl⟩
abbrev main_call3_call0_call0_c_16 : Ref sig .tc := ⟨.hbm, 420, rfl⟩
abbrev main_call3_call0_call0_v64 : Ref sig .tc := ⟨.hbm, 421, rfl⟩
abbrev main_call3_call0_call0_v65 : Ref sig .tc := ⟨.hbm, 422, rfl⟩
abbrev main_call3_call0_call0_v66 : Ref sig .tc := ⟨.hbm, 423, rfl⟩
abbrev main_call3_call0_call0_v67 : Ref sig .tc := ⟨.hbm, 424, rfl⟩
abbrev main_call3_call0_call0_v68 : Ref sig .tc := ⟨.hbm, 425, rfl⟩
abbrev main_call3_call0_call0_v69 : Ref sig .tc := ⟨.hbm, 426, rfl⟩
abbrev main_call3_call0_call0_v70 : Ref sig .tc := ⟨.hbm, 427, rfl⟩
abbrev main_call3_call0_call0_v71 : Ref sig .tc := ⟨.hbm, 428, rfl⟩
abbrev main_call3_call0_call0_c_17 : Ref sig .tc := ⟨.hbm, 429, rfl⟩
abbrev main_call3_call0_call0_v72 : Ref sig .tc := ⟨.hbm, 430, rfl⟩
abbrev main_call3_call0_call0_v73 : Ref sig .tc := ⟨.hbm, 431, rfl⟩
abbrev main_call3_call0_call0_v74 : Ref sig .tc := ⟨.hbm, 432, rfl⟩
abbrev main_call3_call0_call0_c_18 : Ref sig .tc := ⟨.hbm, 433, rfl⟩
abbrev main_call3_call0_call0_v75 : Ref sig .tc := ⟨.hbm, 434, rfl⟩
abbrev main_call3_call0_call0_v76 : Ref sig .tc := ⟨.hbm, 435, rfl⟩
abbrev main_call3_call0_call0_c_19 : Ref sig .tc := ⟨.hbm, 436, rfl⟩
abbrev main_call3_call0_call0_v77 : Ref sig .tc := ⟨.hbm, 437, rfl⟩
abbrev main_call3_call0_call0_v78 : Ref sig .tc := ⟨.hbm, 438, rfl⟩
abbrev main_call3_call0_call0_v79 : Ref sig .tc := ⟨.hbm, 439, rfl⟩
abbrev main_call3_call0_call0_v80 : Ref sig .tc := ⟨.hbm, 440, rfl⟩
abbrev main_call3_call0_call0_v81 : Ref sig .tc := ⟨.hbm, 441, rfl⟩
abbrev main_call3_call0_call0_c_20 : Ref sig .tc := ⟨.hbm, 442, rfl⟩
abbrev main_call3_call0_call0_v82 : Ref sig .tc := ⟨.hbm, 443, rfl⟩
abbrev main_call3_call0_call0_v83 : Ref sig .tc := ⟨.hbm, 444, rfl⟩
abbrev main_call3_call0_call0_c_21 : Ref sig .tc := ⟨.hbm, 445, rfl⟩
abbrev main_call3_call0_call0_v84 : Ref sig .tc := ⟨.hbm, 446, rfl⟩
abbrev main_call3_call0_call0_v85 : Ref sig .tc := ⟨.hbm, 447, rfl⟩
abbrev main_call3_call0_call0_v86 : Ref sig .tc := ⟨.hbm, 448, rfl⟩
abbrev main_call3_call0_call0_v87 : Ref sig .tc := ⟨.hbm, 449, rfl⟩
abbrev main_call3_call0_call0_v88 : Ref sig .tc := ⟨.hbm, 450, rfl⟩
abbrev main_call3_call0_call0_c_22 : Ref sig .tc := ⟨.hbm, 451, rfl⟩
abbrev main_call3_call0_call0_v89 : Ref sig .tc := ⟨.hbm, 452, rfl⟩
abbrev main_call3_call0_call0_v90 : Ref sig .tc := ⟨.hbm, 453, rfl⟩
abbrev main_call3_call0_call0_c_23 : Ref sig .tc := ⟨.hbm, 454, rfl⟩
abbrev main_call3_call0_call0_v91 : Ref sig .tc := ⟨.hbm, 455, rfl⟩
abbrev main_call3_call0_call0_v92 : Ref sig .tc := ⟨.hbm, 456, rfl⟩
abbrev main_call3_call0_call0_v93 : Ref sig .tc := ⟨.hbm, 457, rfl⟩
abbrev main_call3_call0_call0_v94 : Ref sig .tc := ⟨.hbm, 458, rfl⟩
abbrev main_call3_call0_call0_v95 : Ref sig .tc := ⟨.hbm, 459, rfl⟩
abbrev main_call3_call0_call0_c_24 : Ref sig .tc := ⟨.hbm, 460, rfl⟩
abbrev main_call3_call0_call0_v96 : Ref sig .tc := ⟨.hbm, 461, rfl⟩
abbrev main_call3_call0_call0_v97 : Ref sig .tc := ⟨.hbm, 462, rfl⟩
abbrev main_call3_call0_call0_c_25 : Ref sig .tc := ⟨.hbm, 463, rfl⟩
abbrev main_call3_call0_call0_v98 : Ref sig .tc := ⟨.hbm, 464, rfl⟩
abbrev main_call3_call0_call0_v99 : Ref sig .tc := ⟨.hbm, 465, rfl⟩
abbrev main_call3_call0_call0_v100 : Ref sig .tc := ⟨.hbm, 466, rfl⟩
abbrev main_call3_call0_call0_v101 : Ref sig .tc := ⟨.hbm, 467, rfl⟩
abbrev main_call3_call0_call0_v102 : Ref sig .tc := ⟨.hbm, 468, rfl⟩
abbrev main_call3_call0_call0_v103 : Ref sig .tc := ⟨.hbm, 469, rfl⟩
abbrev main_call3_call0_call0_v104 : Ref sig .tc := ⟨.hbm, 470, rfl⟩
abbrev main_call3_call0_call0_v105 : Ref sig .tc := ⟨.hbm, 471, rfl⟩
abbrev main_call3_call0_call0_c_26 : Ref sig .tc := ⟨.hbm, 472, rfl⟩
abbrev main_call3_call0_call0_v106 : Ref sig .tc := ⟨.hbm, 473, rfl⟩
abbrev main_call3_call0_call0_v107 : Ref sig .tc := ⟨.hbm, 474, rfl⟩
abbrev main_call3_call0_call0_v108 : Ref sig .tc := ⟨.hbm, 475, rfl⟩
abbrev main_call3_call0_call0_c_27 : Ref sig .tc := ⟨.hbm, 476, rfl⟩
abbrev main_call3_call0_call0_v109 : Ref sig .tc := ⟨.hbm, 477, rfl⟩
abbrev main_call3_call0_call0_v110 : Ref sig .tc := ⟨.hbm, 478, rfl⟩
abbrev main_call3_call0_call0_c_28 : Ref sig .tc := ⟨.hbm, 479, rfl⟩
abbrev main_call3_call0_call0_v111 : Ref sig .tc := ⟨.hbm, 480, rfl⟩
abbrev main_call3_call0_call0_v112 : Ref sig .tc := ⟨.hbm, 481, rfl⟩
abbrev main_call3_call0_call0_v113 : Ref sig .tc := ⟨.hbm, 482, rfl⟩
abbrev main_call3_call0_call0_v114 : Ref sig .tc := ⟨.hbm, 483, rfl⟩
abbrev main_call3_call0_call0_v115 : Ref sig .tc := ⟨.hbm, 484, rfl⟩
abbrev main_call3_call0_call0_c_29 : Ref sig .tc := ⟨.hbm, 485, rfl⟩
abbrev main_call3_call0_call0_v116 : Ref sig .tc := ⟨.hbm, 486, rfl⟩
abbrev main_call3_call0_call0_v117 : Ref sig .tc := ⟨.hbm, 487, rfl⟩
abbrev main_call3_call0_call0_c_30 : Ref sig .tc := ⟨.hbm, 488, rfl⟩
abbrev main_call3_call0_call0_v118 : Ref sig .tc := ⟨.hbm, 489, rfl⟩
abbrev main_call3_call0_call0_v119 : Ref sig .tc := ⟨.hbm, 490, rfl⟩
abbrev main_call3_call0_call0_v120 : Ref sig .tc := ⟨.hbm, 491, rfl⟩
abbrev main_call3_call0_call0_v121 : Ref sig .tc := ⟨.hbm, 492, rfl⟩
abbrev main_call3_call0_call0_v122 : Ref sig .tc := ⟨.hbm, 493, rfl⟩
abbrev main_call3_call0_call0_c_31 : Ref sig .tc := ⟨.hbm, 494, rfl⟩
abbrev main_call3_call0_call0_v123 : Ref sig .tc := ⟨.hbm, 495, rfl⟩
abbrev main_call3_call0_call0_v124 : Ref sig .tc := ⟨.hbm, 496, rfl⟩
abbrev main_call3_call0_call0_c_32 : Ref sig .tc := ⟨.hbm, 497, rfl⟩
abbrev main_call3_call0_call0_v125 : Ref sig .tc := ⟨.hbm, 498, rfl⟩
abbrev main_call3_call0_call0_v126 : Ref sig .tc := ⟨.hbm, 499, rfl⟩
abbrev main_call3_call0_call0_v127 : Ref sig .tc := ⟨.hbm, 500, rfl⟩
abbrev main_call3_call0_call0_v128 : Ref sig .tc := ⟨.hbm, 501, rfl⟩
abbrev main_call3_call0_call0_v129 : Ref sig .tc := ⟨.hbm, 502, rfl⟩
abbrev main_call3_call0_call0_c_33 : Ref sig .tc := ⟨.hbm, 503, rfl⟩
abbrev main_call3_call0_call0_v130 : Ref sig .tc := ⟨.hbm, 504, rfl⟩
abbrev main_call3_call0_call0_v131 : Ref sig .tc := ⟨.hbm, 505, rfl⟩
abbrev main_call3_call0_call0_c_34 : Ref sig .tc := ⟨.hbm, 506, rfl⟩
abbrev main_call3_call0_call0_v132 : Ref sig .tc := ⟨.hbm, 507, rfl⟩
abbrev main_call3_call0_call0_v133 : Ref sig .tc := ⟨.hbm, 508, rfl⟩
abbrev main_call3_call0_call0_v134 : Ref sig .tc := ⟨.hbm, 509, rfl⟩
abbrev main_call3_call0_call0_v135 : Ref sig .tc := ⟨.hbm, 510, rfl⟩
abbrev main_call3_call0_call0_v136 : Ref sig .tc := ⟨.hbm, 511, rfl⟩
abbrev main_call3_call0_call0_v137 : Ref sig .tc := ⟨.hbm, 512, rfl⟩
abbrev main_call3_call0_call0_v138 : Ref sig .tc := ⟨.hbm, 513, rfl⟩
abbrev main_call3_call0_call0_v139 : Ref sig .tc := ⟨.hbm, 514, rfl⟩
abbrev main_call3_call0_call0_c_35 : Ref sig .tc := ⟨.hbm, 515, rfl⟩
abbrev main_call3_call0_call0_v140 : Ref sig .tc := ⟨.hbm, 516, rfl⟩
abbrev main_call3_call0_call0_v141 : Ref sig .tc := ⟨.hbm, 517, rfl⟩
abbrev main_call3_call0_call0_v142 : Ref sig .tc := ⟨.hbm, 518, rfl⟩
abbrev main_call3_call0_call0_c_36 : Ref sig .tc := ⟨.hbm, 519, rfl⟩
abbrev main_call3_call0_call0_v143 : Ref sig .tc := ⟨.hbm, 520, rfl⟩
abbrev main_call3_call0_call0_v144 : Ref sig .tc := ⟨.hbm, 521, rfl⟩
abbrev main_call3_call0_call0_c_37 : Ref sig .tc := ⟨.hbm, 522, rfl⟩
abbrev main_call3_call0_call0_v145 : Ref sig .tc := ⟨.hbm, 523, rfl⟩
abbrev main_call3_call0_call0_v146 : Ref sig .tc := ⟨.hbm, 524, rfl⟩
abbrev main_call3_call0_call0_v147 : Ref sig .tc := ⟨.hbm, 525, rfl⟩
abbrev main_call3_call0_call0_v148 : Ref sig .tc := ⟨.hbm, 526, rfl⟩
abbrev main_call3_call0_call0_v149 : Ref sig .tc := ⟨.hbm, 527, rfl⟩
abbrev main_call3_call0_call0_c_38 : Ref sig .tc := ⟨.hbm, 528, rfl⟩
abbrev main_call3_call0_call0_v150 : Ref sig .tc := ⟨.hbm, 529, rfl⟩
abbrev main_call3_call0_call0_v151 : Ref sig .tc := ⟨.hbm, 530, rfl⟩
abbrev main_call3_call0_call0_c_39 : Ref sig .tc := ⟨.hbm, 531, rfl⟩
abbrev main_call3_call0_call0_v152 : Ref sig .tc := ⟨.hbm, 532, rfl⟩
abbrev main_call3_call0_call0_v153 : Ref sig .tc := ⟨.hbm, 533, rfl⟩
abbrev main_call3_call0_call0_v154 : Ref sig .tc := ⟨.hbm, 534, rfl⟩
abbrev main_call3_call0_call0_v155 : Ref sig .tc := ⟨.hbm, 535, rfl⟩
abbrev main_call3_call0_call0_v156 : Ref sig .tc := ⟨.hbm, 536, rfl⟩
abbrev main_call3_call0_call0_c_40 : Ref sig .tc := ⟨.hbm, 537, rfl⟩
abbrev main_call3_call0_call0_v157 : Ref sig .tc := ⟨.hbm, 538, rfl⟩
abbrev main_call3_call0_call0_v158 : Ref sig .tc := ⟨.hbm, 539, rfl⟩
abbrev main_call3_call0_call0_c_41 : Ref sig .tc := ⟨.hbm, 540, rfl⟩
abbrev main_call3_call0_call0_v159 : Ref sig .tc := ⟨.hbm, 541, rfl⟩
abbrev main_call3_call0_call0_v160 : Ref sig .tc := ⟨.hbm, 542, rfl⟩
abbrev main_call3_call0_call0_v161 : Ref sig .tc := ⟨.hbm, 543, rfl⟩
abbrev main_call3_call0_call0_v162 : Ref sig .tc := ⟨.hbm, 544, rfl⟩
abbrev main_call3_call0_call0_v163 : Ref sig .tc := ⟨.hbm, 545, rfl⟩
abbrev main_call3_call0_call0_c_42 : Ref sig .tc := ⟨.hbm, 546, rfl⟩
abbrev main_call3_call0_call0_v164 : Ref sig .tc := ⟨.hbm, 547, rfl⟩
abbrev main_call3_call0_call0_v165 : Ref sig .tc := ⟨.hbm, 548, rfl⟩
abbrev main_call3_call0_call0_c_43 : Ref sig .tc := ⟨.hbm, 549, rfl⟩
abbrev main_call3_call0_call0_v166 : Ref sig .tc := ⟨.hbm, 550, rfl⟩
abbrev main_call3_call0_call0_v167 : Ref sig .tc := ⟨.hbm, 551, rfl⟩
abbrev main_call3_call0_call0_v168 : Ref sig .tc := ⟨.hbm, 552, rfl⟩
abbrev main_call3_call0_call0_v169 : Ref sig .tc := ⟨.hbm, 553, rfl⟩
abbrev main_call3_call0_call0_v170 : Ref sig .tc := ⟨.hbm, 554, rfl⟩
abbrev main_call3_call0_v19_0 : Ref sig .tc := ⟨.hbm, 555, rfl⟩
abbrev main_call3_call0_call0_v172 : Ref sig .tc := ⟨.hbm, 556, rfl⟩
abbrev main_call3_call0_call0_v173 : Ref sig .tc := ⟨.hbm, 557, rfl⟩
abbrev main_call3_call0_call0_c_44 : Ref sig .tc := ⟨.hbm, 558, rfl⟩
abbrev main_call3_call0_call0_v174 : Ref sig .tc := ⟨.hbm, 559, rfl⟩
abbrev main_call3_call0_v19_1 : Ref sig .tc := ⟨.hbm, 560, rfl⟩
abbrev main_call3_call0_v20 : Ref sig .tc := ⟨.hbm, 561, rfl⟩
abbrev main_call3_call0_c_2 : Ref sig .tc := ⟨.hbm, 562, rfl⟩
abbrev main_call3_call0_v21 : Ref sig .tc := ⟨.hbm, 563, rfl⟩
abbrev main_call3_call0_v22 : Ref sig .tc := ⟨.hbm, 564, rfl⟩
abbrev main_call3_call0_c_3 : Ref sig .tc := ⟨.hbm, 565, rfl⟩
abbrev main_call3_call0_v23 : Ref sig .tc := ⟨.hbm, 566, rfl⟩
abbrev main_call3_call0_v24 : Ref sig .tc := ⟨.hbm, 567, rfl⟩
abbrev main_call3_call0_v25 : Ref sig .tc := ⟨.hbm, 568, rfl⟩
abbrev main_call3_call0_cst : Ref sig .tc := ⟨.hbm, 569, rfl⟩
abbrev main_call3_call0_v26 : Ref sig .tc := ⟨.hbm, 570, rfl⟩
abbrev main_call3_call0_v27 : Ref sig .tc := ⟨.hbm, 571, rfl⟩
abbrev main_call3_call0_v28 : Ref sig .tc := ⟨.hbm, 572, rfl⟩
abbrev main_call3_call0_v29 : Ref sig .tc := ⟨.hbm, 573, rfl⟩
abbrev main_call3_call0_v30 : Ref sig .tc := ⟨.hbm, 574, rfl⟩
abbrev main_call3_call0_v31 : Ref sig .tc := ⟨.hbm, 575, rfl⟩
abbrev main_call3_call0_v32 : Ref sig .tc := ⟨.hbm, 576, rfl⟩
abbrev main_call3_call0_v33 : Ref sig .tc := ⟨.hbm, 577, rfl⟩
abbrev main_call3_v0 : Ref sig .tc := ⟨.hbm, 578, rfl⟩
abbrev main_call3_v1 : Ref sig .tc := ⟨.hbm, 579, rfl⟩
abbrev main_v30 : Ref sig .tc := ⟨.hbm, 580, rfl⟩
abbrev main_cst_8 : Ref sig .tc := ⟨.hbm, 581, rfl⟩
abbrev main_v31 : Ref sig .tc := ⟨.hbm, 582, rfl⟩
abbrev main_v32 : Ref sig .tc := ⟨.hbm, 583, rfl⟩
abbrev main_cst_9 : Ref sig .tc := ⟨.hbm, 584, rfl⟩
abbrev main_v33 : Ref sig .tc := ⟨.hbm, 585, rfl⟩
abbrev main_v34 : Ref sig .tc := ⟨.hbm, 586, rfl⟩
abbrev main_v35 : Ref sig .tc := ⟨.hbm, 587, rfl⟩
abbrev main_v36 : Ref sig .tc := ⟨.hbm, 588, rfl⟩
abbrev main_v37 : Ref sig .tc := ⟨.hbm, 589, rfl⟩
abbrev main_v38 : Ref sig .tc := ⟨.hbm, 590, rfl⟩
abbrev main_v39 : Ref sig .tc := ⟨.hbm, 591, rfl⟩
abbrev main_call5_cst : Ref sig .tc := ⟨.hbm, 592, rfl⟩
abbrev main_call5_v0 : Ref sig .tc := ⟨.hbm, 593, rfl⟩
abbrev main_call5_cst_0 : Ref sig .tc := ⟨.hbm, 594, rfl⟩
abbrev main_call5_v1 : Ref sig .tc := ⟨.hbm, 595, rfl⟩
abbrev main_call5_v2 : Ref sig .tc := ⟨.hbm, 596, rfl⟩
abbrev main_call5_v3 : Ref sig .tc := ⟨.hbm, 597, rfl⟩
abbrev main_call5_v4 : Ref sig .tc := ⟨.hbm, 598, rfl⟩
abbrev main_call5_v5 : Ref sig .tc := ⟨.hbm, 599, rfl⟩
abbrev main_call5_v6 : Ref sig .tc := ⟨.hbm, 600, rfl⟩
abbrev main_call5_cst_1 : Ref sig .tc := ⟨.hbm, 601, rfl⟩
abbrev main_call5_v7 : Ref sig .tc := ⟨.hbm, 602, rfl⟩
abbrev main_call5_v8 : Ref sig .tc := ⟨.hbm, 603, rfl⟩
abbrev main_call5_v9 : Ref sig .tc := ⟨.hbm, 604, rfl⟩
abbrev main_call5_v10 : Ref sig .tc := ⟨.hbm, 605, rfl⟩
abbrev main_v40 : Ref sig .tc := ⟨.hbm, 606, rfl⟩

abbrev nD : Nat := 1
abbrev τ : Topo := Topo.v7x

variable {F : FTy → Type} [FloatOps F]
-- ==== Proof.Body.lean ====
/-
  The four kernel bodies, each run once over whatever memrefs it is given.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.TableIdle
public import Idealize.ShloMosaic.Lib.Pipeline.FrameBody
public import Idealize.ShloMosaic.Lib.Pipeline.Value
public import Idealize.ShloMosaic.Lib.VecWindow

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕌" => (UR sig nD τ × UR sig nD τ)
local notation "𝕄" => MT nD τ sig Unit (Elt F) ℕ 𝕌 ℕ

/-- A buffer whose last store covered it whole, from its origin, holds what was stored. -/
theorem stored_whole {c : Dev nD} {S : Shape} {e : EltTy} (M : Memref sig .tc .vmem S e) {off : Fin S.rank → ℕ}
    (inb : ∀ a, off a + S.size a ≤ S.size a) (w : S.Idx → Elt F e) (h : ∀ a, off a = 0) :
    (M.view.loc (c : Thread nD τ) ↦[M.view.set]{fullShare}
        M.view.writes (Elt F) M.view.junk [(⟨Rect.unit off S.size inb, w⟩ : View.Piece (Elt F) S e)])
      ⊢ (owns (c : Thread nD τ) M fullShare w : sProp 𝕄) := by
  iintro H
  unfold owns
  iexists _
  isplitr
  swap
  · iexact H
  · ipureintro
    rw [View.read_writes_junk_eq_canon]
    exact View.canon_unit_zero (funext h) inb w

/-- The offsets of the whole-buffer accesses are zero. -/
theorem zero_off : ∀ a : Fin 2, (![0, 0] : Fin 2 → ℕ) a = 0 := by decide

/-- The first kernel stores the product of its two blocks. -/
theorem body0 (c : Dev nD) (i : grid0.Coords)
    (M1 : Memref sig .tc .vmem S1280x3703 .f32) (h1 : M1.IsWhole) (M2 : Memref sig .tc .vmem S3703x32 .f32) (h2 : M2.IsWhole) (M3 : Memref sig .tc .vmem S1280x32 .f32) (h3 : M3.IsWhole)
    (X1 : Vec F S1280x3703 .f32) (X2 : Vec F S3703x32 .f32) (X3 : Vec F S1280x32 .f32) (K : PUnit → sProp 𝕄) :
    iprop(owns (c : Thread nD τ) M1 fullShare X1
        ∗ owns (c : Thread nD τ) M2 fullShare X2
        ∗ owns (c : Thread nD τ) M3 fullShare X3
        ∗ (iprop(owns (c : Thread nD τ) M1 fullShare X1
            ∗ owns (c : Thread nD τ) M2 fullShare X2
            ∗ owns (c : Thread nD τ) M3 fullShare (k0_pay1 X1 X2)) -∗ K ⟨⟩))
      ⊢ wp frame (wpE (defs₀ (F := F)) Variants.none (c : Thread nD τ) none) Set.univ (cc0__p1_kernel i M1 h1 M2 h2 M3 h3) K := by
  rw [cc0__p1_kernel_eq_skeleton]; unfold cc0__p1_kernel_skel
  rw [owns_eq_rep (c : Thread nD τ) M1 fullShare X1, owns_eq_rep (c : Thread nD τ) M2 fullShare X2, owns_eq_rep (c : Thread nD τ) M3 fullShare X3]
  simp only [Prog.lift, Prog.bind_op, Prog.bind_ret, Prog.pure_eq_ret]
  have r1 : M1.view.readAt (Elt F) (Rect.unit (s := S1280x3703) ![0, 0] ![1280, 3703] inb_S1280x3703_S1280x3703_0_0).toLoadRect (M1.view.rep X1) = X1 :=
    View.readAt_rep_full M1.view X1 _
  have r2 : M2.view.readAt (Elt F) (Rect.unit (s := S3703x32) ![0, 0] ![3703, 32] inb_S3703x32_S3703x32_0_0).toLoadRect (M2.view.rep X2) = X2 :=
    View.readAt_rep_full M2.view X2 _
  iintro ⟨H1, H2, H3, Hk⟩
  sl_exec!
  sl_step
  iapply Hk
  isplitl [H1]
  · iexact H1
  isplitl [H2]
  · iexact H2
  · sl_unfold_words
    iapply (stored_whole M3 _ _ zero_off)
    iexact H3

/-- The first key word of a dropout mask, as the kernel computes it from the mask's own number. -/
abbrev keyWord (k : BitVec 32) : BitVec 32 := Scalar.xori (Scalar.xori 0#32 k) 466688986#32

/-- What the second kernel stores as the scaled product of the masked hidden block and the second weights. -/
def out5 (i : grid1.Coords) (X1 : Vec F S512x10000 .f32) (X2 : Vec F S10000x32 .f32) (X3 : Vec F S1x32 .f32) (X4 : Vec F S32x18 .f32) :
    Vec F S512x18 .fp8e4m3 :=
  let k := keyWord 101#32
  let a1 := k1_pay17 k (k1_pay7 i) (k1_pay8 i) (k1_pay9 i)
  let a2 := k1_pay18 k (k1_pay7 i) (k1_pay8 i) (k1_pay9 i)
  let b1 := k1_pay27 k a1 a2
  let b2 := k1_pay28 k a1 a2
  let c1 := k1_pay36 b1 b2 k1_pay29
  let c2 := k1_pay37 b1 b2 k1_pay29
  let c3 := k1_pay38 b1 b2 k1_pay29
  k1_pay50 (k1_pay3 X1 X2) k (k1_pay47 k c1 c2 c3 k1_pay39) (k1_pay48 k c1 c2 c3 k1_pay39) k1_pay49 X3 X4

/-- What the second kernel stores as the mask of the second dropout. -/
def out7 (i : grid1.Coords) : Vec F S512x18 .f32 :=
  let k := keyWord 202#32
  let p := Scalar.muli (BitVec.ofNat 32 (i 0).val) 9216#32
  let q : IVec S512x18 32 := iota .tc S512x18 32 [0] iota_S512x18_d0_w32
  let a1 := k1_pay67 k (k1_pay57 p q) (k1_pay58 p q) (k1_pay59 p q)
  let a2 := k1_pay68 k (k1_pay57 p q) (k1_pay58 p q) (k1_pay59 p q)
  let b1 := k1_pay76 k a1 a2
  let b2 := k1_pay77 k a1 a2
  let c1 := k1_pay86 b1 b2
  let c2 := k1_pay87 b1 b2
  k1_pay1 (k1_pay96 k c1 c2) (k1_pay97 k c1 c2) k1_pay98

/-- The second kernel with its pure parts folded into the three values it stores. -/
def flat1 (i : grid1.Coords) (M1 : Memref sig .tc .vmem S512x10000 .f32) (h1 : M1.IsWhole) (M2 : Memref sig .tc .vmem S10000x32 .f32) (h2 : M2.IsWhole) (M3 : Memref sig .tc .vmem S1x32 .f32) (h3 : M3.IsWhole) (M4 : Memref sig .tc .vmem S32x18 .f32) (h4 : M4.IsWhole) (M5 : Memref sig .tc .vmem S512x18 .fp8e4m3) (h5 : M5.IsWhole) (M6 : Memref sig .tc .vmem S512x10000 .fp8e4m3) (h6 : M6.IsWhole) (M7 : Memref sig .tc .vmem S512x18 .f32) (h7 : M7.IsWhole) : Prog (TpuEff nD τ sig (Elt F) Λ₀ .tc) PUnit := do
  let x1 : Vec F S512x10000 .f32 ← Prog.lift (.load M1 (Rect.unit (s := S512x10000) ![0, 0] S512x10000.size inb_S512x10000_S512x10000_0_0).toLoadRect (View.loadsAt_vmem h_S512x10000))
  let _x6 : Vec F S512x10000 .fp8e4m3 ← Prog.lift (.load M6 (Rect.unit (s := S512x10000) ![0, 0] S512x10000.size inb_S512x10000_S512x10000_0_0).toLoadRect (View.loadsAt_vmem h_S512x10000))
  Prog.lift (.store M6 (Rect.unit (s := S512x10000) ![0, 0] S512x10000.size inb_S512x10000_S512x10000_0_0) (k1_pay2 x1) Finset.univ (View.stores_vmem h_S512x10000 (h6.storeExact_slice rfl _ packedfp8e4m3_S512x10000_S512x10000_0_0) (fun _ => rfl)) (.inl rfl))
  let x2 : Vec F S10000x32 .f32 ← Prog.lift (.load M2 (Rect.unit (s := S10000x32) ![0, 0] S10000x32.size inb_S10000x32_S10000x32_0_0).toLoadRect (View.loadsAt_vmem h_S10000x32))
  let x3 : Vec F S1x32 .f32 ← Prog.lift (.load M3 (Rect.unit (s := S1x32) ![0, 0] S1x32.size inb_S1x32_S1x32_0_0).toLoadRect (View.loadsAt_vmem h_S1x32))
  let x4 : Vec F S32x18 .f32 ← Prog.lift (.load M4 (Rect.unit (s := S32x18) ![0, 0] S32x18.size inb_S32x18_S32x18_0_0).toLoadRect (View.loadsAt_vmem h_S32x18))
  let _x5 : Vec F S512x18 .fp8e4m3 ← Prog.lift (.load M5 (Rect.unit (s := S512x18) ![0, 0] S512x18.size inb_S512x18_S512x18_0_0).toLoadRect (View.loadsAt_vmem h_S512x18))
  Prog.lift (.store M5 (Rect.unit (s := S512x18) ![0, 0] S512x18.size inb_S512x18_S512x18_0_0) (out5 i x1 x2 x3 x4) Finset.univ (View.stores_vmem h_S512x18 (h5.storeExact_slice rfl _ packedfp8e4m3_S512x18_S512x18_0_0) (fun _ => rfl)) (.inl rfl))
  let _x7 : Vec F S512x18 .f32 ← Prog.lift (.load M7 (Rect.unit (s := S512x18) ![0, 0] S512x18.size inb_S512x18_S512x18_0_0).toLoadRect (View.loadsAt_vmem h_S512x18))
  Prog.lift (.store M7 (Rect.unit (s := S512x18) ![0, 0] S512x18.size inb_S512x18_S512x18_0_0) (out7 (F := F) i) Finset.univ (View.stores_vmem_bits_univ h_S512x18 rfl) (.inl rfl))
  pure ⟨⟩

set_option maxRecDepth 65536 in
/-- The second kernel is that program. -/
theorem flat1_eq (i : grid1.Coords) (M1 : Memref sig .tc .vmem S512x10000 .f32) (h1 : M1.IsWhole) (M2 : Memref sig .tc .vmem S10000x32 .f32) (h2 : M2.IsWhole) (M3 : Memref sig .tc .vmem S1x32 .f32) (h3 : M3.IsWhole) (M4 : Memref sig .tc .vmem S32x18 .f32) (h4 : M4.IsWhole) (M5 : Memref sig .tc .vmem S512x18 .fp8e4m3) (h5 : M5.IsWhole) (M6 : Memref sig .tc .vmem S512x10000 .fp8e4m3) (h6 : M6.IsWhole) (M7 : Memref sig .tc .vmem S512x18 .f32) (h7 : M7.IsWhole) :
    cc1__p2_kernel (F := F) i M1 h1 M2 h2 M3 h3 M4 h4 M5 h5 M6 h6 M7 h7 = flat1 i M1 h1 M2 h2 M3 h3 M4 h4 M5 h5 M6 h6 M7 h7 := by
  rw [cc1__p2_kernel_eq_skeleton]; rfl

/-- The second kernel stores the scaled adjacency block, the scaled product for the next layer and the next mask. -/
theorem body1 (c : Dev nD) (i : grid1.Coords)
    (M1 : Memref sig .tc .vmem S512x10000 .f32) (h1 : M1.IsWhole) (M2 : Memref sig .tc .vmem S10000x32 .f32) (h2 : M2.IsWhole) (M3 : Memref sig .tc .vmem S1x32 .f32) (h3 : M3.IsWhole) (M4 : Memref sig .tc .vmem S32x18 .f32) (h4 : M4.IsWhole) (M5 : Memref sig .tc .vmem S512x18 .fp8e4m3) (h5 : M5.IsWhole) (M6 : Memref sig .tc .vmem S512x10000 .fp8e4m3) (h6 : M6.IsWhole) (M7 : Memref sig .tc .vmem S512x18 .f32) (h7 : M7.IsWhole)
    (X1 : Vec F S512x10000 .f32) (X2 : Vec F S10000x32 .f32) (X3 : Vec F S1x32 .f32) (X4 : Vec F S32x18 .f32) (X5 : Vec F S512x18 .fp8e4m3) (X6 : Vec F S512x10000 .fp8e4m3) (X7 : Vec F S512x18 .f32) (K : PUnit → sProp 𝕄) :
    iprop(owns (c : Thread nD τ) M1 fullShare X1
        ∗ owns (c : Thread nD τ) M2 fullShare X2
        ∗ owns (c : Thread nD τ) M3 fullShare X3
        ∗ owns (c : Thread nD τ) M4 fullShare X4
        ∗ owns (c : Thread nD τ) M5 fullShare X5
        ∗ owns (c : Thread nD τ) M6 fullShare X6
        ∗ owns (c : Thread nD τ) M7 fullShare X7
        ∗ (iprop(owns (c : Thread nD τ) M1 fullShare X1
            ∗ owns (c : Thread nD τ) M2 fullShare X2
            ∗ owns (c : Thread nD τ) M3 fullShare X3
            ∗ owns (c : Thread nD τ) M4 fullShare X4
            ∗ owns (c : Thread nD τ) M5 fullShare (out5 i X1 X2 X3 X4)
            ∗ owns (c : Thread nD τ) M6 fullShare (k1_pay2 X1)
            ∗ owns (c : Thread nD τ) M7 fullShare (out7 i)) -∗ K ⟨⟩))
      ⊢ wp frame (wpE (defs₀ (F := F)) Variants.none (c : Thread nD τ) none) Set.univ (cc1__p2_kernel i M1 h1 M2 h2 M3 h3 M4 h4 M5 h5 M6 h6 M7 h7) K := by
  rw [flat1_eq]; unfold flat1
  rw [owns_eq_rep (c : Thread nD τ) M1 fullShare X1, owns_eq_rep (c : Thread nD τ) M2 fullShare X2, owns_eq_rep (c : Thread nD τ) M3 fullShare X3, owns_eq_rep (c : Thread nD τ) M4 fullShare X4, owns_eq_rep (c : Thread nD τ) M5 fullShare X5, owns_eq_rep (c : Thread nD τ) M6 fullShare X6, owns_eq_rep (c : Thread nD τ) M7 fullShare X7]
  simp only [Prog.lift, Prog.bind_op, Prog.bind_ret, Prog.pure_eq_ret]
  have r1 : M1.view.readAt (Elt F) (Rect.unit (s := S512x10000) ![0, 0] ![512, 10000] inb_S512x10000_S512x10000_0_0).toLoadRect (M1.view.rep X1) = X1 :=
    View.readAt_rep_full M1.view X1 _
  have r2 : M2.view.readAt (Elt F) (Rect.unit (s := S10000x32) ![0, 0] ![10000, 32] inb_S10000x32_S10000x32_0_0).toLoadRect (M2.view.rep X2) = X2 :=
    View.readAt_rep_full M2.view X2 _
  have r3 : M3.view.readAt (Elt F) (Rect.unit (s := S1x32) ![0, 0] ![1, 32] inb_S1x32_S1x32_0_0).toLoadRect (M3.view.rep X3) = X3 :=
    View.readAt_rep_full M3.view X3 _
  have r4 : M4.view.readAt (Elt F) (Rect.unit (s := S32x18) ![0, 0] ![32, 18] inb_S32x18_S32x18_0_0).toLoadRect (M4.view.rep X4) = X4 :=
    View.readAt_rep_full M4.view X4 _
  iintro ⟨H1, H2, H3, H4, H5, H6, H7, Hk⟩
  sl_exec!
  sl_step
  iapply Hk
  isplitl [H1]
  · iexact H1
  isplitl [H2]
  · iexact H2
  isplitl [H3]
  · iexact H3
  isplitl [H4]
  · iexact H4
  isplitl [H5]
  · sl_unfold_words
    iapply (stored_whole M5 _ _ zero_off)
    iexact H5
  isplitl [H6]
  · sl_unfold_words
    iapply (stored_whole M6 _ _ zero_off)
    iexact H6
  · sl_unfold_words
    iapply (stored_whole M7 _ _ zero_off)
    iexact H7

/-- The third kernel stores the scaled product for the last layer. -/
theorem body2 (c : Dev nD) (i : grid2.Coords)
    (M1 : Memref sig .tc .vmem S1024x10000 .fp8e4m3) (h1 : M1.IsWhole) (M2 : Memref sig .tc .vmem S10000x18 .fp8e4m3) (h2 : M2.IsWhole) (M3 : Memref sig .tc .vmem S1x18 .f32) (h3 : M3.IsWhole) (M4 : Memref sig .tc .vmem S1024x18 .f32) (h4 : M4.IsWhole) (M5 : Memref sig .tc .vmem S18x6 .f32) (h5 : M5.IsWhole) (M6 : Memref sig .tc .vmem S1024x6 .fp8e4m3) (h6 : M6.IsWhole)
    (X1 : Vec F S1024x10000 .fp8e4m3) (X2 : Vec F S10000x18 .fp8e4m3) (X3 : Vec F S1x18 .f32) (X4 : Vec F S1024x18 .f32) (X5 : Vec F S18x6 .f32) (X6 : Vec F S1024x6 .fp8e4m3) (K : PUnit → sProp 𝕄) :
    iprop(owns (c : Thread nD τ) M1 fullShare X1
        ∗ owns (c : Thread nD τ) M2 fullShare X2
        ∗ owns (c : Thread nD τ) M3 fullShare X3
        ∗ owns (c : Thread nD τ) M4 fullShare X4
        ∗ owns (c : Thread nD τ) M5 fullShare X5
        ∗ owns (c : Thread nD τ) M6 fullShare X6
        ∗ (iprop(owns (c : Thread nD τ) M1 fullShare X1
            ∗ owns (c : Thread nD τ) M2 fullShare X2
            ∗ owns (c : Thread nD τ) M3 fullShare X3
            ∗ owns (c : Thread nD τ) M4 fullShare X4
            ∗ owns (c : Thread nD τ) M5 fullShare X5
            ∗ owns (c : Thread nD τ) M6 fullShare (k2_pay1 X1 X2 X3 X4 X5)) -∗ K ⟨⟩))
      ⊢ wp frame (wpE (defs₀ (F := F)) Variants.none (c : Thread nD τ) none) Set.univ (cc2__p3_kernel i M1 h1 M2 h2 M3 h3 M4 h4 M5 h5 M6 h6) K := by
  rw [cc2__p3_kernel_eq_skeleton]; unfold cc2__p3_kernel_skel
  rw [owns_eq_rep (c : Thread nD τ) M1 fullShare X1, owns_eq_rep (c : Thread nD τ) M2 fullShare X2, owns_eq_rep (c : Thread nD τ) M3 fullShare X3, owns_eq_rep (c : Thread nD τ) M4 fullShare X4, owns_eq_rep (c : Thread nD τ) M5 fullShare X5, owns_eq_rep (c : Thread nD τ) M6 fullShare X6]
  simp only [Prog.lift, Prog.bind_op, Prog.bind_ret, Prog.pure_eq_ret]
  have r1 : M1.view.readAt (Elt F) (Rect.unit (s := S1024x10000) ![0, 0] ![1024, 10000] inb_S1024x10000_S1024x10000_0_0).toLoadRect (M1.view.rep X1) = X1 :=
    View.readAt_rep_full M1.view X1 _
  have r2 : M2.view.readAt (Elt F) (Rect.unit (s := S10000x18) ![0, 0] ![10000, 18] inb_S10000x18_S10000x18_0_0).toLoadRect (M2.view.rep X2) = X2 :=
    View.readAt_rep_full M2.view X2 _
  have r3 : M3.view.readAt (Elt F) (Rect.unit (s := S1x18) ![0, 0] ![1, 18] inb_S1x18_S1x18_0_0).toLoadRect (M3.view.rep X3) = X3 :=
    View.readAt_rep_full M3.view X3 _
  have r4 : M4.view.readAt (Elt F) (Rect.unit (s := S1024x18) ![0, 0] ![1024, 18] inb_S1024x18_S1024x18_0_0).toLoadRect (M4.view.rep X4) = X4 :=
    View.readAt_rep_full M4.view X4 _
  have r5 : M5.view.readAt (Elt F) (Rect.unit (s := S18x6) ![0, 0] ![18, 6] inb_S18x6_S18x6_0_0).toLoadRect (M5.view.rep X5) = X5 :=
    View.readAt_rep_full M5.view X5 _
  iintro ⟨H1, H2, H3, H4, H5, H6, Hk⟩
  sl_exec!
  sl_step
  iapply Hk
  isplitl [H1]
  · iexact H1
  isplitl [H2]
  · iexact H2
  isplitl [H3]
  · iexact H3
  isplitl [H4]
  · iexact H4
  isplitl [H5]
  · iexact H5
  · sl_unfold_words
    iapply (stored_whole M6 _ _ zero_off)
    iexact H6

/-- The fourth kernel stores the logarithm of the softmax of its rows. -/
theorem body3 (c : Dev nD) (i : grid3.Coords)
    (M1 : Memref sig .tc .vmem S1024x10000 .fp8e4m3) (h1 : M1.IsWhole) (M2 : Memref sig .tc .vmem S10000x6 .fp8e4m3) (h2 : M2.IsWhole) (M3 : Memref sig .tc .vmem S1x6 .f32) (h3 : M3.IsWhole) (M4 : Memref sig .tc .vmem S1024x6 .f32) (h4 : M4.IsWhole)
    (X1 : Vec F S1024x10000 .fp8e4m3) (X2 : Vec F S10000x6 .fp8e4m3) (X3 : Vec F S1x6 .f32) (X4 : Vec F S1024x6 .f32) (K : PUnit → sProp 𝕄) :
    iprop(owns (c : Thread nD τ) M1 fullShare X1
        ∗ owns (c : Thread nD τ) M2 fullShare X2
        ∗ owns (c : Thread nD τ) M3 fullShare X3
        ∗ owns (c : Thread nD τ) M4 fullShare X4
        ∗ (iprop(owns (c : Thread nD τ) M1 fullShare X1
            ∗ owns (c : Thread nD τ) M2 fullShare X2
            ∗ owns (c : Thread nD τ) M3 fullShare X3
            ∗ owns (c : Thread nD τ) M4 fullShare (k3_pay1 X1 X2 X3)) -∗ K ⟨⟩))
      ⊢ wp frame (wpE (defs₀ (F := F)) Variants.none (c : Thread nD τ) none) Set.univ (cc3__p4_kernel i M1 h1 M2 h2 M3 h3 M4 h4) K := by
  rw [cc3__p4_kernel_eq_skeleton]; unfold cc3__p4_kernel_skel
  rw [owns_eq_rep (c : Thread nD τ) M1 fullShare X1, owns_eq_rep (c : Thread nD τ) M2 fullShare X2, owns_eq_rep (c : Thread nD τ) M3 fullShare X3, owns_eq_rep (c : Thread nD τ) M4 fullShare X4]
  simp only [Prog.lift, Prog.bind_op, Prog.bind_ret, Prog.pure_eq_ret]
  have r1 : M1.view.readAt (Elt F) (Rect.unit (s := S1024x10000) ![0, 0] ![1024, 10000] inb_S1024x10000_S1024x10000_0_0).toLoadRect (M1.view.rep X1) = X1 :=
    View.readAt_rep_full M1.view X1 _
  have r2 : M2.view.readAt (Elt F) (Rect.unit (s := S10000x6) ![0, 0] ![10000, 6] inb_S10000x6_S10000x6_0_0).toLoadRect (M2.view.rep X2) = X2 :=
    View.readAt_rep_full M2.view X2 _
  have r3 : M3.view.readAt (Elt F) (Rect.unit (s := S1x6) ![0, 0] ![1, 6] inb_S1x6_S1x6_0_0).toLoadRect (M3.view.rep X3) = X3 :=
    View.readAt_rep_full M3.view X3 _
  iintro ⟨H1, H2, H3, H4, Hk⟩
  sl_exec!
  sl_step
  iapply Hk
  isplitl [H1]
  · iexact H1
  isplitl [H2]
  · iexact H2
  isplitl [H3]
  · iexact H3
  · sl_unfold_words
    iapply (stored_whole M4 _ _ zero_off)
    iexact H4

end Cert.KernelIdeal.Run

end
-- ==== Proof.Data.lean ====
/-
  What is known of each kernel's windows: an input window holds its block of the array as the region found it, whatever lies past the
  array's end; an output window ends each point at the body's payload of some such inputs.
-/
module

public import proofs.«01_k».proof.Proof.Body
public import Idealize.ShloMosaic.Lib.Pipeline.DatRel

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F]

local notation "𝕌" => (UR sig nD τ × UR sig nD τ)
local notation "𝕄" => MT nD τ sig Unit (Elt F) ℕ 𝕌 ℕ

/-- The proof data of any of the pipelines over the contents `V` of the device's buffers: the arrays as `V` has them, every window's
    block of them left in place, the scoped buffers no window stages carried through. -/
def dat (cfg : Cfg sig Λ₀) (c : Dev nD) (V : Valuation τ sig (Elt F)) : Dat τ (Elt F) Unit ℕ 𝕌 ℕ cfg c where
  A w := V (Proc.devRef .tc (Pipeline.arrRef cfg.spec w))
  after w t := (cfg.win w).fill (cfg.grid.coords t) (Dat.unnamed w t)
    (((cfg.win w).blk t).view.read (Elt F) (V (Proc.devRef .tc (Pipeline.arrRef cfg.spec w))))
  Φ _ := Pipeline.scopedRest cfg.spec c
  q _ := fullShare
  owed _ := 0

variable {cfg : Cfg sig Λ₀} (c : Dev nD) (V : Valuation τ sig (Elt F))

/-- A window fetched at a point holds there what the fetch puts in it, which is the block on the part the transfer moves. -/
theorem before_loose (w : Fin cfg.W) (t : Fin cfg.N) (hf : (cfg.win w).fetch t = true) (d : (cfg.win w).block.Idx → Elt F (cfg.win w).elt) :
    (dat cfg c V).before w t d = (dat cfg c V).fetched w t d :=
  (dat cfg c V).before_fetched w t hf d

/-- What such a window holds is also what the obligation asks for after the body. -/
theorem fetched_eq_fill (w : Fin cfg.W) (t : Fin cfg.N) (d : (cfg.win w).block.Idx → Elt F (cfg.win w).elt) :
    (cfg.win w).fill (cfg.grid.coords t) d ((cfg.win w).cut (cfg.grid.coords t) ((dat cfg c V).after w t)) = (dat cfg c V).fetched w t d := by
  show (cfg.win w).fill _ d ((cfg.win w).cut _ ((cfg.win w).fill _ _ _)) = _
  rw [(cfg.win w).cut_fill]; rfl

/-- An input window that no fetch cuts holds its block at every point, whether fetched there or before. -/
theorem before_exact (w : Fin cfg.W) (hw : (cfg.win w).isOut = false) (hlive : ∀ i, cfg.idle w i = false)
    (hclip : ∀ i a, (cfg.win w).clip i a = none) (t : Fin cfg.N) (d : (cfg.win w).block.Idx → Elt F (cfg.win w).elt) :
    (dat cfg c V).before w t d = (dat cfg c V).fetched w t d :=
  (dat cfg c V).before_in_eq_fetched w hw hlive (fun t t' _ => funext fun a => by rw [hclip, hclip])
    (fun t => (cfg.win w).cut_fill _ _ _) t d

/-- What such a window holds is what the data say the body leaves. -/
theorem fetched_exact (w : Fin cfg.W) (hclip : ∀ i a, (cfg.win w).clip i a = none) (t : Fin cfg.N)
    (d : (cfg.win w).block.Idx → Elt F (cfg.win w).elt) :
    (dat cfg c V).fetched w t d = (dat cfg c V).after w t :=
  (dat cfg c V).fetched_of_clip_none w t (fun a => hclip _ a) d (Dat.unnamed w t)

/-- The windows whose contents are held to a relation: the outputs. -/
abbrev outs_ (cfg : Cfg sig Λ₀) : Fin cfg.W → Bool := fun w => (cfg.win w).isOut

/-- What the first kernel may leave at a point: its payload of the inputs' blocks. -/
def Rl0 (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun X => ∃ d0 d1, X = k0_pay1 ((dat cfg0 c V).fetched 0 t d0) ((dat cfg0 c V).fetched 1 t d1)

/-- The first kernel's body meets its obligation. -/
theorem oblig0 : BodyObligationRel (dat cfg0 c V) (defs₀ (F := F)) Variants.none () Set.univ (outs_ cfg0) (Rl0 c V) := fun t => by
  rw [bigSep_W0, bigSep_W0]
  simp only
  rw [show (dat cfg0 c V).Φ t.succ = (dat cfg0 c V).Φ t.castSucc from rfl,
    show (dat cfg0 c V).owesAt () t.succ = (dat cfg0 c V).owesAt () t.castSucc from rfl]
  iintro ⟨HΦ, Ho, ⟨%d0, H0⟩, ⟨%d1, H1⟩, ⟨%d2, %hd2, H2⟩⟩
  rw [before_loose c V 0 t (fetch0_0 t) d0, before_exact c V 1 rfl (fun _ => rfl) (fun _ _ => rfl) t d1]
  iapply (body0 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) ((dat cfg0 c V).fetched 0 t d0) ((dat cfg0 c V).fetched 1 t d1) d2 _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists d0
    rw [fetched_eq_fill c V 0 t d0]; iexact H0
  isplitl [H1]
  · rw [← fetched_exact c V 1 (fun _ _ => rfl) t d1]; iexact H1
  · iexists _
    isplitr
    swap
    · iexact H2
    · ipureintro; exact ⟨d0, d1, rfl⟩

/-- What the second kernel may leave at a point: its payloads of the inputs' blocks. -/
def Rl1 (w : Fin cfg1.W) (t : Fin cfg1.N) : ((cfg1.win w).block.Idx → Elt F (cfg1.win w).elt) → Prop :=
  match w with
  | ⟨0, _⟩ => fun _ => True
  | ⟨1, _⟩ => fun _ => True
  | ⟨2, _⟩ => fun _ => True
  | ⟨3, _⟩ => fun _ => True
  | ⟨4, _⟩ => fun X => ∃ d0 d1 d2 d3, X = out5 (grid1.coords t) ((dat cfg1 c V).fetched 0 t d0) ((dat cfg1 c V).fetched 1 t d1) ((dat cfg1 c V).fetched 2 t d2) ((dat cfg1 c V).fetched 3 t d3)
  | ⟨5, _⟩ => fun X => ∃ d0, X = k1_pay2 ((dat cfg1 c V).fetched 0 t d0)
  | ⟨6, _⟩ => fun X => X = out7 (grid1.coords t)

/-- The second kernel's body meets its obligation. -/
theorem oblig1 : BodyObligationRel (dat cfg1 c V) (defs₀ (F := F)) Variants.none () Set.univ (outs_ cfg1) (Rl1 c V) := fun t => by
  rw [bigSep_W1, bigSep_W1]
  simp only
  rw [show (dat cfg1 c V).Φ t.succ = (dat cfg1 c V).Φ t.castSucc from rfl,
    show (dat cfg1 c V).owesAt () t.succ = (dat cfg1 c V).owesAt () t.castSucc from rfl]
  iintro ⟨HΦ, Ho, ⟨%d0, H0⟩, ⟨%d1, H1⟩, ⟨%d2, H2⟩, ⟨%d3, H3⟩, ⟨%d4, %hd4, H4⟩, ⟨%d5, %hd5, H5⟩, ⟨%d6, %hd6, H6⟩⟩
  rw [before_loose c V 0 t (fetch1_0 t) d0, before_exact c V 1 rfl (fun _ => rfl) (fun _ _ => rfl) t d1, before_exact c V 2 rfl (fun _ => rfl) (fun _ _ => rfl) t d2, before_exact c V 3 rfl (fun _ => rfl) (fun _ _ => rfl) t d3]
  iapply (body1 (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) ((dat cfg1 c V).fetched 0 t d0) ((dat cfg1 c V).fetched 1 t d1) ((dat cfg1 c V).fetched 2 t d2) ((dat cfg1 c V).fetched 3 t d3) d4 d5 d6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]
  · iexists d0
    rw [fetched_eq_fill c V 0 t d0]; iexact H0
  isplitl [H1]
  · rw [← fetched_exact c V 1 (fun _ _ => rfl) t d1]; iexact H1
  isplitl [H2]
  · rw [← fetched_exact c V 2 (fun _ _ => rfl) t d2]; iexact H2
  isplitl [H3]
  · rw [← fetched_exact c V 3 (fun _ _ => rfl) t d3]; iexact H3
  isplitl [H4]
  · iexists _
    isplitr
    swap
    · iexact H4
    · ipureintro; exact ⟨d0, d1, d2, d3, rfl⟩
  isplitl [H5]
  · iexists _
    isplitr
    swap
    · iexact H5
    · ipureintro; exact ⟨d0, rfl⟩
  · iexists _
    isplitr
    swap
    · iexact H6
    · ipureintro; exact rfl

/-- What the third kernel may leave at a point: its payloads of the inputs' blocks. -/
def Rl2 (w : Fin cfg2.W) (t : Fin cfg2.N) : ((cfg2.win w).block.Idx → Elt F (cfg2.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun X => ∃ d0 d1 d2 d3 d4, X = k2_pay1 ((dat cfg2 c V).fetched 0 t d0) ((dat cfg2 c V).fetched 1 t d1) ((dat cfg2 c V).fetched 2 t d2) ((dat cfg2 c V).fetched 3 t d3) ((dat cfg2 c V).fetched 4 t d4)

/-- The third kernel's body meets its obligation. -/
theorem oblig2 : BodyObligationRel (dat cfg2 c V) (defs₀ (F := F)) Variants.none () Set.univ (outs_ cfg2) (Rl2 c V) := fun t => by
  rw [bigSep_W2, bigSep_W2]
  simp only
  rw [show (dat cfg2 c V).Φ t.succ = (dat cfg2 c V).Φ t.castSucc from rfl,
    show (dat cfg2 c V).owesAt () t.succ = (dat cfg2 c V).owesAt () t.castSucc from rfl]
  iintro ⟨HΦ, Ho, ⟨%d0, H0⟩, ⟨%d1, H1⟩, ⟨%d2, H2⟩, ⟨%d3, H3⟩, ⟨%d4, H4⟩, ⟨%d5, %hd5, H5⟩⟩
  rw [before_loose c V 0 t (fetch2_0 t) d0, before_exact c V 1 rfl (fun _ => rfl) (fun _ _ => rfl) t d1, before_exact c V 2 rfl (fun _ => rfl) (fun _ _ => rfl) t d2, before_loose c V 3 t (fetch2_3 t) d3, before_exact c V 4 rfl (fun _ => rfl) (fun _ _ => rfl) t d4]
  iapply (body2 (F := F) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) ((dat cfg2 c V).fetched 0 t d0) ((dat cfg2 c V).fetched 1 t d1) ((dat cfg2 c V).fetched 2 t d2) ((dat cfg2 c V).fetched 3 t d3) ((dat cfg2 c V).fetched 4 t d4) d5 _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]
  · iexists d0
    rw [fetched_eq_fill c V 0 t d0]; iexact H0
  isplitl [H1]
  · rw [← fetched_exact c V 1 (fun _ _ => rfl) t d1]; iexact H1
  isplitl [H2]
  · rw [← fetched_exact c V 2 (fun _ _ => rfl) t d2]; iexact H2
  isplitl [H3]
  · iexists d3
    rw [fetched_eq_fill c V 3 t d3]; iexact H3
  isplitl [H4]
  · rw [← fetched_exact c V 4 (fun _ _ => rfl) t d4]; iexact H4
  · iexists _
    isplitr
    swap
    · iexact H5
    · ipureintro; exact ⟨d0, d1, d2, d3, d4, rfl⟩

/-- What the fourth kernel may leave at a point: its payloads of the inputs' blocks. -/
def Rl3 (w : Fin cfg3.W) (t : Fin cfg3.N) : ((cfg3.win w).block.Idx → Elt F (cfg3.win w).elt) → Prop :=
  match w with
  | ⟨0, _⟩ => fun _ => True
  | ⟨1, _⟩ => fun _ => True
  | ⟨2, _⟩ => fun _ => True
  | ⟨3, _⟩ => fun X => ∃ d0 d1 d2, X = k3_pay1 ((dat cfg3 c V).fetched 0 t d0) ((dat cfg3 c V).fetched 1 t d1) ((dat cfg3 c V).fetched 2 t d2)

/-- The fourth kernel's body meets its obligation. -/
theorem oblig3 : BodyObligationRel (dat cfg3 c V) (defs₀ (F := F)) Variants.none () Set.univ (outs_ cfg3) (Rl3 c V) := fun t => by
  rw [bigSep_W3, bigSep_W3]
  simp only
  rw [show (dat cfg3 c V).Φ t.succ = (dat cfg3 c V).Φ t.castSucc from rfl,
    show (dat cfg3 c V).owesAt () t.succ = (dat cfg3 c V).owesAt () t.castSucc from rfl]
  iintro ⟨HΦ, Ho, ⟨%d0, H0⟩, ⟨%d1, H1⟩, ⟨%d2, H2⟩, ⟨%d3, %hd3, H3⟩⟩
  rw [before_loose c V 0 t (fetch3_0 t) d0, before_exact c V 1 rfl (fun _ => rfl) (fun _ _ => rfl) t d1, before_exact c V 2 rfl (fun _ => rfl) (fun _ _ => rfl) t d2]
  iapply (body3 (F := F) c (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) ((dat cfg3 c V).fetched 0 t d0) ((dat cfg3 c V).fetched 1 t d1) ((dat cfg3 c V).fetched 2 t d2) d3 _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]
  · iexists d0
    rw [fetched_eq_fill c V 0 t d0]; iexact H0
  isplitl [H1]
  · rw [← fetched_exact c V 1 (fun _ _ => rfl) t d1]; iexact H1
  isplitl [H2]
  · rw [← fetched_exact c V 2 (fun _ _ => rfl) t d2]; iexact H2
  · iexists _
    isplitr
    swap
    · iexact H3
    · ipureintro; exact ⟨d0, d1, d2, rfl⟩

end Cert.KernelIdeal.Run

end
-- ==== Proof.Regions.lean ====
/-
  Each kernel's region of @main, entered with the device's buffers at any contents and left with them at contents that differ only on
  the region's results, which hold what the region's relation allows.
-/
module

public import proofs.«01_k».proof.Proof.Data
public import proofs.«01_k».proof.Proof.Gen.KernelIdeal.Regions
public import Idealize.ShloMosaic.Lib.Pipeline.ArrRel
public import Idealize.ShloMosaic.Lib.Pipeline.RegionArrays
public import Idealize.ShloMosaic.Lib.Pipeline.RegionsLoop

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window HostSeg)

variable {F : FTy → Type} [FloatOps F]

local notation "𝕌" => (UR sig nD τ × UR sig nD τ)
local notation "𝕄" => MT nD τ sig Unit (Elt F) ℕ 𝕌 ℕ

/-- What each pipeline may leave in its windows, over the contents `V` that its region found. -/
def Rl (c : Dev nD) (V : Valuation τ sig (Elt F)) : (p : Fin 4) → (w : Fin (cfgs p).W) → Fin (cfgs p).N →
    (((cfgs p).win w).block.Idx → Elt F ((cfgs p).win w).elt) → Prop
  | ⟨0, _⟩ => Rl0 c V
  | ⟨1, _⟩ => Rl1 c V
  | ⟨2, _⟩ => Rl2 c V
  | ⟨3, _⟩ => Rl3 c V

/-- The four pipelines' relational proof data over the contents `V`. -/
def rdats (V : Valuation τ sig (Elt F)) (p : Fin 4) (c : Dev nD) : RDat τ (Elt F) Unit ℕ 𝕌 ℕ (cfgs p) c :=
  (dat (cfgs p) c V).toRRel (outs_ (cfgs p)) (Rl c V p)

/-- Every body meets its obligation. -/
theorem oblig (V : Valuation τ sig (Elt F)) : (p : Fin 4) → (c : Dev nD) →
    (rdats V p c).BodyObligation (defs₀ (F := F)) Variants.none () Set.univ
  | ⟨0, _⟩, c => (oblig0 c V).toRRel
  | ⟨1, _⟩, c => (oblig1 c V).toRRel
  | ⟨2, _⟩, c => (oblig2 c V).toRRel
  | ⟨3, _⟩, c => (oblig3 c V).toRRel

/-- The layout of each pipeline, as decided. -/
theorem kit : (p : Fin 4) → Pipeline.LaunchFacts (nD := nD) (τ := τ) cfgs p
  | ⟨0, _⟩ => launch0
  | ⟨1, _⟩ => launch1
  | ⟨2, _⟩ => launch2
  | ⟨3, _⟩ => launch3

/-- The contents `V'` are what pipeline `p` may leave when it finds `V`: they differ from `V` on its windows' arrays alone, and those
    hold what exact data name whose blocks meet the relation at every point written back. -/
def Ends (p : Fin 4) (c : Dev nD) (V V' : Valuation τ sig (Elt F)) : Prop :=
  (∀ b, (∀ w, (Proc.devRef .tc (Pipeline.arrRef (cfgs p).spec w) : DevRef τ sig) ≠ b) → V' b = V b)
    ∧ ∃ after, (∀ (w : Fin (cfgs p).W) (u : Fin (cfgs p).N), ((cfgs p).win w).flush u = true → (rdats V p c).Leaves w u (after w u))
      ∧ ∀ w, V' (Proc.devRef .tc (Pipeline.arrRef (cfgs p).spec w)) = ((rdats V p c).withAfter after).arrAt w (cfgs p).N

/-- Contents may be changed at finitely many distinct buffers, each to any contents of its own. -/
theorem exists_update {n : ℕ} (f : Fin n → DevRef τ sig) (hf : Function.Injective f) (V : Valuation τ sig (Elt F))
    (G : (w : Fin n) → (f w).ty.Contents (Elt F)) :
    ∃ V' : Valuation τ sig (Elt F), (∀ w, V' (f w) = G w) ∧ ∀ b, (∀ w, f w ≠ b) → V' b = V b := by
  classical
  refine ⟨fun b => if h : ∃ w, f w = b then h.choose_spec ▸ G h.choose else V b, fun w => ?_, fun b hb => ?_⟩
  · have h : ∃ w', f w' = f w := ⟨w, rfl⟩
    simp only [dif_pos h]
    have e : h.choose = w := hf h.choose_spec
    generalize h.choose_spec = q
    revert q
    rw [e]
    exact fun _ => rfl
  · exact dif_neg fun ⟨w, hw⟩ => hb w hw

/-- Core `c` holds its unscoped buffers at some contents with `I`, owes nothing, and keeps the ghost state of the pipelines `S`. -/
def State (S : Finset (Fin 4)) (I : Dev nD → Valuation τ sig (Elt F) → Prop) (c : Dev nD) : sProp 𝕄 :=
  iprop(∃ V, ⌜I c V⌝ ∗ StableHlo.held (c : Thread nD τ) (Pipeline.ucRefs τ sig) V
    ∗ (∃ W, owes (c : Thread nD τ) (0 : CellTallies nD τ sig Unit) W) ∗ Pipeline.ghostOn (pcfgs (F := F)) adm embR S c)

/-- No level is assigned: the bodies wait for nothing. -/
abbrev L : GSem nD τ sig → Finset Unit := fun _ => ∅
/-- The levels of no index. -/
abbrev lv : GSem nD τ sig → Unit → ℕ := fun _ _ => 0

/-- Pipeline `p`'s region, entered from the contents `V`. -/
def region (V : Valuation τ sig (Elt F)) (p : Fin 4) :
    RDat.RegionSeg (pcfgs (F := F)) adm (rdats V) () (defs₀ (F := F)) Variants.none L lv p where
  win := (kit p).win.to₀
  block_pos := (kit p).block_pos
  stage_whole := (kit p).stage_whole
  K := PEmpty
  osem k := k.elim
  ho := Pipeline.OwnSemFacts.none _
  hbody := oblig V p
  hwaits := RDat.hwaits_of_owed_zero (pcfgs (F := F)) adm (rdats V) () L lv p fun _ _ => rfl
  pre c := iprop(StableHlo.held (c : Thread nD τ) (Pipeline.ucRefs τ sig) V ∗ ∃ W, owes (c : Thread nD τ) (0 : CellTallies nD τ sig Unit) W)
  post c := iprop(∃ V', ⌜Ends p c V V'⌝ ∗ StableHlo.held (c : Thread nD τ) (Pipeline.ucRefs τ sig) V'
    ∗ ∃ W, owes (c : Thread nD τ) (0 : CellTallies nD τ sig Unit) W)
  X _ := iprop(emp)
  Y _ := iprop(emp)
  Z c := Pipeline.unscopedRest (cfgs p).spec c (fun b => V b)
  hentry c := by
    rw [Pipeline.ownSems0_none, Pipeline.prefHeld_of_none _ rfl, ← Pipeline.unscopedBufs_held]
    iintro ⟨⟨Hh, HO⟩, -, -⟩
    imodintro
    ihave Ha := (RDat.arrays_of_unscopedBufs (pcfgs (F := F)) adm (rdats V) (kit p).win (kit p).arr_whole c
      (fun w => (dat (cfgs p) c V).share_full (fun _ => rfl) w) (fun b => V b) (fun _ => rfl)) $$ Hh
    icases Ha with ⟨Ha, Hr⟩
    isplitl [Ha]; · iexact Ha
    isplitr; · iempintro
    isplitl [HO]
    · unfold RDat.owesAt Pipeline.owesWithin
      icases HO with ⟨%W, HO⟩; iexists W; isplitr; · ipureintro; exact fun _ _ => Or.inl trivial
      iexact HO
    isplitr; · iempintro
    iexact Hr
  hin c := by
    show _ ⊢ (Pipeline.scopedRest (cfgs p).spec c : sProp 𝕄)
    iintro ⟨-, -, Hr⟩; iexact Hr
  hout c := by
    show (Pipeline.scopedRest (cfgs p).spec c : sProp 𝕄) ⊢ _
    rw [Pipeline.ownSems0_none]
    iintro Hr
    isplitr; · iempintro
    isplitr; · iempintro
    iexact Hr
  hexit c := by
    have hsh : ∀ w, (rdats V p c).share w = fullShare := fun w => (dat (cfgs p) c V).share_full (fun _ => rfl) w
    rw [RDat.arraysAt_eq (pcfgs (F := F)) adm (rdats V) p c (kit p).arr_whole hsh]
    iintro ⟨Ha, HO, -, Hr⟩
    ihave Ha := (bigSep_exists_pi Finset.univ _) $$ Ha
    icases Ha with ⟨%G, Ha⟩
    ihave Ha := (bigSep_pure_sep Finset.univ _ _) $$ Ha
    icases Ha with ⟨%hG, Ha⟩
    obtain ⟨after, hL, hA⟩ := RDat.ArrAt.exists_exact_all fun w => hG w (Finset.mem_univ w)
    obtain ⟨V', hV', hrest⟩ := exists_update (fun w => (Proc.devRef .tc (Pipeline.arrRef (cfgs p).spec w) : DevRef τ sig))
      ((Proc.devRef_injective _).comp (kit p).win.arr_inj) V G
    imodintro
    iexists V'
    isplitr
    · ipureintro
      exact ⟨hrest, after, fun w u hf => hL w u u.isLt hf, fun w => (hV' w).trans (hA w)⟩
    isplitr [HO]
    · have hput := Pipeline.unscopedBufs_of_arrays (Ix := Unit) (Name := ℕ) (U := 𝕌) (Lvl := ℕ) (pcfgs (F := F)) adm (kit p).win (kit p).arr_whole c
        (fun p c => dat (cfgs p) c V) (fun w => (dat (cfgs p) c V).share_full (fun _ => rfl) w) (fun b => V b) (fun b => V' b) G
        (fun w => (hV' w).symm) (fun b hb => hrest _ fun w hw => hb (Finset.mem_image.mpr ⟨w, Finset.mem_univ w, Proc.devRef_injective _ hw⟩))
      rw [Pipeline.unscopedBufs_held] at hput
      iapply hput
      isplitl [Ha]
      · rw [Pipeline.arrays_eq (Pipeline.pin pcfgs adm) (fun p c => dat (cfgs p) c V) p c (kit p).arr_whole (fun w => (dat (cfgs p) c V).share_full (fun _ => rfl) w)]
        iexact Ha
      · iexact Hr
    · unfold RDat.owesAt Pipeline.owesWithin
      icases HO with ⟨%W, -, HO⟩; iexists W; iexact HO

end Cert.KernelIdeal.Run

end
-- ==== Proof.Run.lean ====
/-
  The whole run: the host's reshapes, then the four regions in order, from any memory.
-/
module

public import proofs.«01_k».proof.Proof.Regions

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window HostSeg)

variable {F : FTy → Type} [FloatOps F]

local notation "𝕌" => (UR sig nD τ × UR sig nD τ)
local notation "𝕄" => MT nD τ sig Unit (Elt F) ℕ 𝕌 ℕ

/-- What region `p` may leave the buffers at, entered at contents with `I`. -/
def After (p : Fin 4) (I : Dev nD → Valuation τ sig (Elt F) → Prop) (c : Dev nD) (V' : Valuation τ sig (Elt F)) : Prop :=
  ∃ V, I c V ∧ Ends p c V V'

/-- What the four regions may leave the buffers at, from the launch memory: the host's reshapes first, then one region's change
    after another. -/
def Reach (m : (ℓ : Loc nD τ sig) → Buf (Elt F) ℓ) : Dev nD → Valuation τ sig (Elt F) → Prop :=
  After 3 (After 2 (After 1 (After 0 fun c V => V = V1 m c)))

/-- A region changes its results' buffers alone. -/
theorem Ends.of_ne {p : Fin 4} {c : Dev nD} {V V' : Valuation τ sig (Elt F)} (h : Ends p c V V') (b : DevRef τ sig)
    (hb : ∀ w, ((cfgs p).win w).isOut = true → (Proc.devRef .tc (Pipeline.arrRef (cfgs p).spec w) : DevRef τ sig) ≠ b) : V' b = V b := by
  obtain ⟨hrest, after, -, hA⟩ := h
  by_cases hw : ∃ w, (Proc.devRef .tc (Pipeline.arrRef (cfgs p).spec w) : DevRef τ sig) = b
  · obtain ⟨w, rfl⟩ := hw
    have hin : ((cfgs p).win w).isOut = false := by
      cases ho : ((cfgs p).win w).isOut
      · rfl
      · exact absurd rfl (hb w ho)
    rw [hA w, Dat.arrAt_in _ w hin]; rfl
  · exact hrest b fun w e => hw ⟨w, e⟩

/-- A region as a segment that takes its ghost state out of the core's store of it. -/
def seg (p : Fin 4) (S : Finset (Fin 4)) (hp : p ∈ S) (I : Dev nD → Valuation τ sig (Elt F) → Prop) :
    HostSeg (Ix := Unit) (Name := ℕ) (U := 𝕌) (Lvl := ℕ) (pcfgs (F := F)) (defs₀ (F := F)) Variants.none L lv where
  prog := Prog.lift (.customCall (Pipeline.entry p) ())
  pre := State S I
  post := State (S.erase p) (After p I)
  run c β k K := by
    show _ ⊢ wp frame _ Set.univ (.op (.customCall (Pipeline.entry p) ()) k) K
    unfold State
    rw [show (Pipeline.ghostOn (pcfgs (F := F)) adm embR S c : sProp 𝕄) = _ from Pipeline.PerCore.ghostOn_erase (pcfgs (F := F)) (fun _ => adm) embR hp c]
    iintro ⟨Hk, Hb, ⟨%V, %hI, Hh, HO, ⟨Hg, Ht⟩, Hrest⟩, Hl⟩
    iapply ((region V p).wp (pcfgs (F := F)) adm (rdats V) () cellOf_inj embR (defs₀ (F := F)) Variants.none L lv c none (fun u hu => nomatch hu) k K)
    isplitl [Hk Hrest]
    · iintro ⟨Hb, HP⟩
      ihave ⟨%V', %hE, Hh, HO⟩ := (show (region V p).post c ⊢ iprop(∃ V', ⌜Ends p c V V'⌝ ∗ StableHlo.held (c : Thread nD τ) (Pipeline.ucRefs τ sig) V' ∗ ∃ W, owes (c : Thread nD τ) (0 : CellTallies nD τ sig Unit) W) from .rfl) $$ HP
      iapply Hk
      isplitl [Hb]; · iexact Hb
      iexists V'
      isplitr; · ipureintro; exact ⟨V, hI, hE⟩
      isplitl [Hh]; · iexact Hh
      isplitl [HO]; · iexact HO
      iexact Hrest
    isplitl [Hb]; · iexact Hb
    isplitl [Hh HO]
    · iapply (show iprop(StableHlo.held (c : Thread nD τ) (Pipeline.ucRefs τ sig) V ∗ ∃ W, owes (c : Thread nD τ) (0 : CellTallies nD τ sig Unit) W) ⊢ (region V p).pre c from .rfl)
      isplitl [Hh]; · iexact Hh
      iexact HO
    isplitl [Hl]; · iexact Hl
    isplitl [Hg]; · iexact Hg
    iexact Ht

variable (m : (ℓ : Loc nD τ sig) → Buf (Elt F) ℓ)

/-- What the launch leaves each core beside its buffers: nothing owed, and every pipeline's ghost state. -/
def rest (c : Dev nD) : sProp 𝕄 :=
  iprop((∃ W, owes (c : Thread nD τ) (0 : CellTallies nD τ sig Unit) W) ∗ Pipeline.ghostOn (pcfgs (F := F)) adm embR Finset.univ c)

/-- The host's reshapes of the three biases. -/
def host : HostSeg (Ix := Unit) (Name := ℕ) (U := 𝕌) (Lvl := ℕ) (pcfgs (F := F)) (defs₀ (F := F)) Variants.none L lv :=
  seg0 m Variants.none L lv (fun _ => rest)

/-- @main's five items. -/
def items (_ : Dev nD) : List (RDat.Seg (pcfgs (F := F)) adm (fun p c => rdats (V0 m c) p c) () (defs₀ (F := F)) Variants.none L lv) :=
  [.host (host m),
   .host (seg 0 Finset.univ (by decide) fun c V => V = V1 m c),
   .host (seg 1 (Finset.univ.erase 0) (by decide) (After 0 fun c V => V = V1 m c)),
   .host (seg 2 ((Finset.univ.erase 0).erase 1) (by decide) (After 1 (After 0 fun c V => V = V1 m c))),
   .host (seg 3 (((Finset.univ.erase 0).erase 1).erase 2) (by decide) (After 2 (After 1 (After 0 fun c V => V = V1 m c))))]

/-- What a final memory is: it agrees with some contents the four regions reach, on every unscoped buffer. -/
def Final (c : Dev nD) (s : MemSt nD τ sig (Elt F)) : Prop :=
  ∃ V, Reach m c V ∧ ∀ b ∈ Pipeline.ucRefs τ sig, s.mem ((c : Thread nD τ).1, b) = V b

/-- The regions leave every buffer that is no region's result as the host left it. -/
theorem Reach.of_ne {c : Dev nD} {V : Valuation τ sig (Elt F)} (h : Reach m c V) (b : DevRef τ sig)
    (hb : ∀ p w, ((cfgs p).win w).isOut = true → (Proc.devRef .tc (Pipeline.arrRef (cfgs p).spec w) : DevRef τ sig) ≠ b) : V b = V1 m c b := by
  obtain ⟨V4, ⟨V3, ⟨V2, ⟨_, rfl, e0⟩, e1⟩, e2⟩, e3⟩ := h
  rw [e3.of_ne b (hb 3), e2.of_ne b (hb 2), e1.of_ne b (hb 1), e0.of_ne b (hb 0)]

set_option backward.isDefEq.respectTransparency.types false in
/-- Every run from `m` ends, with all semaphores at zero, in a memory the four regions reach. -/
theorem run_main (g : Dev nD → PrngReg) :
    θ_run defs (onTc (τ := τ) (main (F := F))) ⟨m, fun _ => 0, g⟩ (fun r => (∀ c : Dev nD, Final m c r.2) ∧ r.2.sem = fun _ => 0) := by
  refine RDat.θ_run_regions_kit_dev_sems (pcfgs (F := F)) adm (fun p c => rdats (V0 m c) p c) () cellOf_inj embL (defs₀ (F := F)) Variants.none L lv m g main
    (items m)
    (fun c Q => by
      rewrite [main_chain c, RDat.Seg.run_eq_chain,
        show (items m c).map RDat.Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()) ] from rfl]
      dsimp (config := { failIfUnchanged := false }) only
      exact .rfl)
    (fun c => by simp only [items, RDat.Seg.pipes_host, RDat.Seg.pipes_nil]; exact List.nodup_nil)
    (fun _ => 0) (fun _ _ => rfl)
    (fun c => Pipeline.ghostOn (pcfgs (F := F)) adm embR Finset.univ c)
    (initOf (Pipeline.cells cfgs cellOf_inj) (Pipeline.launchToks cfgs cellOf_inj), initOf (Pipeline.cells cfgs cellOf_inj) (Pipeline.launchToks cfgs cellOf_inj))
    ?_
    (T₀ := fun c => iprop(StableHlo.held (c : Thread nD τ) (Pipeline.ucRefs τ sig) (V0 m c) ∗ rest c))
    (Tₙ := fun c => iprop(∃ V, ⌜Reach m c V⌝ ∗ StableHlo.held (c : Thread nD τ) (Pipeline.ucRefs τ sig) V))
    (hch := fun c => ⟨.rfl, ?_, .rfl, .rfl, .rfl, ?_⟩)
    (hinit := ?_) (QY := Final m)
    (hfin := fun c s' => ?_) (hQ := fun _ h hz => ⟨h, funext fun g => hz g (.inr (regions_no_unscoped g.2))⟩)
  · refine (ownU_pair _ _).trans ?_
    iintro ⟨HL, HR⟩
    imod (Pipeline.fund_ghost cfgs embR cellOf_inj) $$ HR with ⟨Hg, Ht⟩
    imodintro
    isplitl [HL]; · iexact HL
    rw [show (fun c : Dev nD => (Pipeline.ghostOn (pcfgs (F := F)) adm embR Finset.univ c : sProp 𝕄))
      = fun c => iprop((bigSep Finset.univ fun p => Pipeline.cellsGhost cfgs embR p c) ∗ bigSep Finset.univ fun p => Pipeline.toksInit cfgs embR p c)
      from funext fun c => bigSep_sep' _ _ _, bigSep_sep']
    isplitl [Hg]; · iexact Hg
    iexact Ht
  · show iprop(StableHlo.held (c : Thread nD τ) (Pipeline.ucRefs τ sig) (V1 m c) ∗ rest c) ⊢ State Finset.univ (fun c V => V = V1 m c) c
    unfold State rest
    iintro ⟨Hh, HO, Hg⟩
    iexists (V1 m c)
    isplitr; · ipureintro; rfl
    isplitl [Hh]; · iexact Hh
    isplitl [HO]; · iexact HO
    iexact Hg
  · show State ((((Finset.univ : Finset (Fin 4)).erase 0).erase 1).erase 2 |>.erase 3) (Reach m) c ⊢ _
    unfold State
    iintro ⟨%V, %hV, Hh, HO, Hg⟩
    isplitl [Hh]
    · iexists V
      isplitr; · ipureintro; exact hV
      iexact Hh
    iexact HO
  · have hcore (c : Dev nD) : iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (g c)
          ∗ Pipeline.ghostOn (pcfgs (F := F)) adm embR Finset.univ c)
        ⊢ (iprop(StableHlo.held (c : Thread nD τ) (Pipeline.ucRefs τ sig) (V0 m c) ∗ rest c) : sProp 𝕄) := by
      rw [show (fun b => m ((c.tc : Thread nD τ).loc b)) = fun b => V0 m c (Proc.devRef .tc b) from rfl, Pipeline.unscopedBufs_held c (V0 m c)]
      unfold rest
      iintro ⟨Hh, Hs, HO, Hc, Hr, Hg⟩
      isplitl [Hh]; · iexact Hh
      isplitl [HO]
      · iexists ∅
        iexact HO
      iexact Hg
    have hall := bigSep_mono (s := Finset.univ) fun c (_ : c ∈ Finset.univ) => hcore c
    iintro ⟨H, -⟩
    imodintro
    iapply (show (bigSep Finset.univ _ : sProp 𝕄) ⊢ bigSep Finset.univ _ from hall) $$ H
  · unfold StableHlo.held
    iintro ⟨⟨%V, %hV, Hh⟩, HSI⟩
    ihave Hr := (pointsTo_read_all (Pipeline.ucRefs τ sig) (fun b => ((c : Thread nD τ).1, b)) V s') $$ [Hh HSI]
    · isplitl [Hh] <;> iassumption
    icases Hr with ⟨%h, HSI⟩
    imodintro
    isplitr
    · ipureintro
      exact ⟨V, hV, h⟩
    · iexact HSI

/-- A final memory holds each argument as launched. -/
theorem Final.args {c : Dev nD} {s : MemSt nD τ sig (Elt F)} (h : Final m c s) :
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)
  ∧ s.mem ((c.tc : Thread nD τ).loc main_arg7) = m ((c.tc : Thread nD τ).loc main_arg7) := by
  obtain ⟨V, hV, hs⟩ := h
  have key (r : Ref sig .tc) (hr : ¬ (Proc.devRef .tc r : DevRef τ sig).isScoped) (hb : ∀ p w, ((cfgs p).win w).isOut = true → (Proc.devRef .tc (Pipeline.arrRef (cfgs p).spec w) : DevRef τ sig) ≠ Proc.devRef .tc r)
      (h1 : V1 m c (Proc.devRef .tc r) = m ((c.tc : Thread nD τ).loc r)) : s.mem ((c.tc : Thread nD τ).loc r) = m ((c.tc : Thread nD τ).loc r) :=
    ((hs (Proc.devRef .tc r) (Finset.mem_filter.mpr ⟨StableHlo.devRef_mem_tcRefs r, hr⟩)).trans (hV.of_ne m _ hb)).trans h1
  exact ⟨key main_arg0 (by decide) (by decide) ((V1_of m c main_arg0 (by decide)).trans rfl), key main_arg1 (by decide) (by decide) ((V1_of m c main_arg1 (by decide)).trans rfl), key main_arg2 (by decide) (by decide) ((V1_of m c main_arg2 (by decide)).trans rfl), key main_arg3 (by decide) (by decide) ((V1_of m c main_arg3 (by decide)).trans rfl), key main_arg4 (by decide) (by decide) ((V1_of m c main_arg4 (by decide)).trans rfl), key main_arg5 (by decide) (by decide) ((V1_of m c main_arg5 (by decide)).trans rfl), key main_arg6 (by decide) (by decide) ((V1_of m c main_arg6 (by decide)).trans rfl), key main_arg7 (by decide) (by decide) ((V1_of m c main_arg7 (by decide)).trans rfl)⟩

/-- Every run from `m` ends with each argument as launched and all semaphores at zero. -/
theorem run_frame (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs (onTc (τ := τ) (main (F := F))) ⟨m, fun _ => 0, g⟩).mono (fun _ h => ⟨fun c => (h.1 c).args m, h.2⟩) (run_main m g)

end Cert.KernelIdeal.Run

end
-- ==== Proof.Twin.lean ====
module

public import proofs.«01_k».proof.Proof.Run
public import proofs.«01_k».proof.Defs
public import Idealize.ShloMosaic.Lib.StableHlo.RunHlo
public import proofs.«01_k».proof.Proof.Gen.Kernel

@[expose] public section

noncomputable section

namespace Cert.Proof

open Idealize.ShloMosaic Idealize.SL.Sem

instance : Cert.Kernel.Facts := Cert.Kernel.Gen.facts
instance : Cert.KernelIdeal.Facts := Cert.KernelIdeal.Gen.facts
/-- The two prints are one program at machine floats. -/
theorem main_eq : Cert.Kernel.main (F := Bits) = Cert.KernelIdeal.main (F := Bits) := by rfl

/-- Their second kernels are one. -/
theorem kernel1_eq : @Cert.Kernel.cc1__p2_kernel Bits _ _ = @Cert.KernelIdeal.cc1__p2_kernel Bits _ _ := by rfl

/-- A statement of the four labels, from one proof of each. -/
theorem four {P : Fin 4 → Prop} (h0 : P 0) (h1 : P 1) (h2 : P 2) (h3 : P 3) (l : Fin 4) : P l := by
  fin_cases l <;> assumption

/-- Their kernels are the same four. -/
theorem defs₀_eq : Cert.Kernel.defs₀ (F := Bits) = Cert.KernelIdeal.defs₀ (F := Bits) :=
  congrArg (Defs.onTc (nD := Cert.Kernel.nD) (τ := Cert.Kernel.τ) (sig := Cert.Kernel.sig)) (funext (four (funext fun _ => rfl) (funext fun _ => rfl) (funext fun _ => rfl) (funext fun _ => rfl)))

/-- Their definitions with the pipelines' are the same. -/
theorem defs_eq : Cert.Kernel.defs (F := Bits) = Cert.KernelIdeal.defs (F := Bits) := congrArg (Pipeline.defs _) defs₀_eq

/-- The kernel terminates, leaves its arguments as they were and its semaphores at zero: the run of its idealized print, at machine floats. -/
theorem frame_Kernel : quiescent_Kernel (hKernel := Cert.Kernel.Gen.facts) := fun m g _ => by
  rw [defs_eq, main_eq]
  exact Cert.KernelIdeal.Run.run_frame (F := Bits) m g

end Cert.Proof
end
-- ==== Proof.Lines.lean ====
/-
  Straight lines of host operations in which every operation writes a buffer of its own, later in a fixed order than every
  buffer it reads and every buffer written before it.  The contents such a line ends at solve the operations' equations: each
  operation, run once more from them, changes nothing.
-/
module

public import Idealize.ShloMosaic.Lib.StableHlo.RunHlo

@[expose] public section

namespace Cert.Lines

open Idealize.ShloMosaic Idealize.ShloMosaic.StableHlo Idealize.SL.Sem

variable {nD : Nat} {τ : Topo} {sig : RefSig} {Val : EltTy → Type} {Λ : Labels}

/-- A reference's place in the order: its number among the buffers of its memory space. -/
abbrev rk (r : Ref sig .tc) : ℕ := r.idx.val

/-- `op` writes the buffer `y` alone, determines it, and reads buffers before `y` only. -/
structure Line (y : Ref sig .tc) (op : HloOp τ sig Val) : Prop where
  writes : op.writes = {Proc.devRef (τ := τ) .tc y}
  bufs : op.bufs ⊆ tcRefs τ sig
  fresh : op.fresh = ∅
  reads : ∀ W W' : Valuation τ sig Val, (∀ r : Ref sig .tc, rk r < rk y → W (Proc.devRef .tc r) = W' (Proc.devRef .tc r)) →
    op.result W (Proc.devRef .tc y) = op.result W' (Proc.devRef .tc y)

/-- The operations write buffers in increasing order, from place `n` on and before place `l`. -/
def Straight (n l : ℕ) : List (HloOp τ sig Val) → Prop
  | [] => n ≤ l
  | op :: ops => ∃ y, n ≤ rk y ∧ Line y op ∧ Straight (rk y + 1) l ops

/-- Two straight lists of operations, one after the other, are one straight list. -/
theorem Straight.append {l k : ℕ} : ∀ {n : ℕ} {ops ops' : List (HloOp τ sig Val)}, Straight n l ops → Straight l k ops' → Straight n k (ops ++ ops')
  | n, [], ops', h, h' => by
    cases ops' with
    | nil => exact le_trans h h'
    | cons op ops' => obtain ⟨y, hy, h'⟩ := h'; exact ⟨y, le_trans h hy, h'⟩
  | n, op :: ops, ops', ⟨y, hy, hl, h⟩, h' => ⟨y, hy, hl, h.append h'⟩

/-- A buffer before the line's first place keeps its contents. -/
theorem Straight.after_eq {l : ℕ} : ∀ {n : ℕ} {ops : List (HloOp τ sig Val)}, Straight n l ops → ∀ (V : Valuation τ sig Val) (r : Ref sig .tc), rk r < n →
    after ops V (Proc.devRef .tc r) = V (Proc.devRef .tc r)
  | _, [], _, _, _, _ => rfl
  | n, op :: ops, ⟨y, hy, hl, h⟩, V, r, hr => by
    rw [after_cons, h.after_eq _ r (by omega), result_of_writes_ne op V y r hl.writes (fun e => by subst e; omega)]

/-- What a line ends at is a fixed point of each of its operations. -/
theorem Straight.fixed {l : ℕ} : ∀ {n : ℕ} {ops : List (HloOp τ sig Val)}, Straight n l ops → ∀ (V : Valuation τ sig Val), ∀ op ∈ ops, op.result (after ops V) = after ops V
  | n, op :: ops, ⟨y, hy, hl, h⟩, V, o, ho => by
    rw [after_cons]
    rcases List.mem_cons.mp ho with rfl | ho
    · funext b
      by_cases hb : b ∈ o.writes
      · rw [hl.writes, Finset.mem_singleton] at hb
        subst hb
        rw [h.after_eq _ y (Nat.lt_succ_self _)]
        refine hl.reads _ _ fun r hr => ?_
        rw [h.after_eq _ r (by omega), result_of_writes_ne o V y r hl.writes (fun e => by subst e; omega)]
      · exact o.result_of_not_mem _ hb
    · exact h.fixed _ o ho

/-- A straight list's operations touch the core's own buffers only. -/
theorem Straight.bufs {l : ℕ} : ∀ {n : ℕ} {ops : List (HloOp τ sig Val)}, Straight n l ops → ops.Forall fun op => op.bufs ⊆ tcRefs τ sig
  | _, [], _ => trivial
  | _, _ :: _, ⟨_, _, hl, h⟩ => (List.forall_cons _ _ _).mpr ⟨hl.bufs, h.bufs⟩

/-- A straight list's operations bring no fresh buffers. -/
theorem Straight.fresh {l : ℕ} : ∀ {n : ℕ} {ops : List (HloOp τ sig Val)}, Straight n l ops → ∀ op ∈ ops, op.fresh = ∅
  | _, _ :: _, ⟨_, _, hl, h⟩, o, ho => by
    rcases List.mem_cons.mp ho with rfl | ho
    · exact hl.fresh
    · exact h.fresh o ho

/-- An operation of no operands writes one buffer, with its value. -/
theorem line_nullary (y : Ref sig .tc) (v : y.ty.Contents Val) (hy) : Line y (nullary (τ := τ) y v hy) where
  writes := rfl
  bufs := nullary_bufs_sub y v hy
  fresh := rfl
  reads W W' _ := by rw [nullary_result, nullary_result]

/-- An operation of one operand writes one buffer, from a buffer of lower rank. -/
theorem line_unary (x y : Ref sig .tc) (f : x.ty.Contents Val → y.ty.Contents Val) (hx hy) (h : rk x < rk y) :
    Line y (unary (τ := τ) x y f hx hy) where
  writes := rfl
  bufs := unary_bufs_sub x y f hx hy
  fresh := rfl
  reads W W' hW := by rw [unary_result, unary_result, hW x h]

/-- An operation of two operands writes one buffer, from buffers of lower rank. -/
theorem line_binary (a b y : Ref sig .tc) (f : a.ty.Contents Val → b.ty.Contents Val → y.ty.Contents Val) (ha hb hy)
    (h : rk a < rk y) (h' : rk b < rk y) : Line y (binary (τ := τ) a b y f ha hb hy) where
  writes := rfl
  bufs := binary_bufs_sub a b y f ha hb hy
  fresh := rfl
  reads W W' hW := by rw [binary_result, binary_result, hW a h, hW b h']

/-- An operation of three operands writes one buffer, from buffers of lower rank. -/
theorem line_ternary (c a b y : Ref sig .tc) (f : c.ty.Contents Val → a.ty.Contents Val → b.ty.Contents Val → y.ty.Contents Val) (hc ha hb hy)
    (h : rk c < rk y) (h' : rk a < rk y) (h'' : rk b < rk y) : Line y (ternary (τ := τ) c a b y f hc ha hb hy) where
  writes := rfl
  bufs := ternary_bufs_sub a b c y f hc ha hb hy
  fresh := rfl
  reads W W' hW := by rw [ternary_result, ternary_result, hW c h, hW a h', hW b h'']

/-- A reshape writes one buffer, from a buffer of lower rank. -/
theorem line_reshape (x y : Ref sig .tc) (he hn hx hy) (h : rk x < rk y) :
    Line y (reshape (τ := τ) (Val := Val) x y he hn hx hy) where
  writes := rfl
  bufs := reshape_bufs_sub x y he hn hx hy
  fresh := rfl
  reads W W' hW := by rw [reshape_result, reshape_result, hW x h]

/-- `p` is a straight line writing places `n` up to `l`, and contents that its operations leave as they are satisfy `E`. -/
def Solves (p : Prog (TpuEff nD τ sig Val Λ .tc) PUnit) (n l : ℕ) (E : Valuation τ sig Val → Prop) : Prop :=
  ∃ ops, p = seq ops ∧ Straight n l ops ∧ ∀ W, (∀ op ∈ ops, op.result W = W) → E W

namespace Solves

variable {p q : Prog (TpuEff nD τ sig Val Λ .tc) PUnit} {n l k : ℕ} {E E' : Valuation τ sig Val → Prop}

/-- What a program solves may be weakened. -/
theorem imp (h : Solves p n l E) (hE : ∀ W, E W → E' W) : Solves p n l E' := by
  obtain ⟨ops, hp, hs, hW⟩ := h
  exact ⟨ops, hp, hs, fun W h => hE W (hW W h)⟩

/-- The program that does nothing is a straight line of no places. -/
theorem nil (h : n ≤ l) : Solves (nD := nD) (Λ := Λ) (pure ⟨⟩ : Prog (TpuEff nD τ sig Val Λ .tc) PUnit) n l fun _ => True :=
  ⟨[], rfl, h, fun _ _ => trivial⟩

/-- Two programs in a row solve what each solves. -/
theorem bind (h : Solves p n l E) (h' : Solves q l k E') : Solves (p >>= fun _ => q) n k fun W => E W ∧ E' W := by
  obtain ⟨ops, rfl, hs, hW⟩ := h
  obtain ⟨ops', rfl, hs', hW'⟩ := h'
  exact ⟨ops ++ ops', (seq_append ops ops').symm, hs.append hs',
    fun W h => ⟨hW W fun op ho => h op (List.mem_append_left _ ho), hW' W fun op ho => h op (List.mem_append_right _ ho)⟩⟩

/-- A single operation solves the equation of its result. -/
theorem one {op : HloOp τ sig Val} {y : Ref sig .tc} (hy : n ≤ rk y) (hl : Line y op) (hk : rk y + 1 ≤ l) :
    Solves (Λ := Λ) (nD := nD) (hlo rfl op fun _ => .ret (⟨⟩ : PUnit)) n l fun W => op.result W (Proc.devRef .tc y) = W (Proc.devRef .tc y) :=
  ⟨[op], rfl, ⟨y, hy, hl, hk⟩, fun W h => congrFun (h op List.mem_cons_self) _⟩

variable {e : Valuation τ sig Val → Prop}

/-- An operation of no operands solves: its result is its value. -/
theorem nullary {y : Ref sig .tc} {v : y.ty.Contents Val} {hy} (hn : n ≤ rk y) (hl : rk y + 1 ≤ l) :
    Solves (Λ := Λ) (nD := nD) (hlo rfl (StableHlo.nullary (τ := τ) y v hy) fun _ => .ret (⟨⟩ : PUnit)) n l fun W => W (Proc.devRef .tc y) = v :=
  (one hn (line_nullary y v hy) hl).imp fun W h => by rw [← h, nullary_result]

/-- An operation of one operand solves: its result is its function of the operand. -/
theorem unary {x y : Ref sig .tc} {f : x.ty.Contents Val → y.ty.Contents Val} {hx hy} (hn : n ≤ rk y) (h : rk x < rk y) (hl : rk y + 1 ≤ l) :
    Solves (Λ := Λ) (nD := nD) (hlo rfl (StableHlo.unary (τ := τ) x y f hx hy) fun _ => .ret (⟨⟩ : PUnit)) n l fun W => W (Proc.devRef .tc y) = f (W (Proc.devRef .tc x)) :=
  (one hn (line_unary x y f hx hy h) hl).imp fun W h => by rw [← h, unary_result]

/-- An operation of two operands solves: its result is its function of both. -/
theorem binary {a b y : Ref sig .tc} {f : a.ty.Contents Val → b.ty.Contents Val → y.ty.Contents Val} {ha hb hy} (hn : n ≤ rk y)
    (h : rk a < rk y) (h' : rk b < rk y) (hl : rk y + 1 ≤ l) :
    Solves (Λ := Λ) (nD := nD) (hlo rfl (StableHlo.binary (τ := τ) a b y f ha hb hy) fun _ => .ret (⟨⟩ : PUnit)) n l
      fun W => W (Proc.devRef .tc y) = f (W (Proc.devRef .tc a)) (W (Proc.devRef .tc b)) :=
  (one hn (line_binary a b y f ha hb hy h h') hl).imp fun W h => by rw [← h, binary_result]

/-- An operation of three operands solves: its result is its function of all three. -/
theorem ternary {c a b y : Ref sig .tc} {f : c.ty.Contents Val → a.ty.Contents Val → b.ty.Contents Val → y.ty.Contents Val} {hc ha hb hy} (hn : n ≤ rk y)
    (h : rk c < rk y) (h' : rk a < rk y) (h'' : rk b < rk y) (hl : rk y + 1 ≤ l) :
    Solves (Λ := Λ) (nD := nD) (hlo rfl (StableHlo.ternary (τ := τ) c a b y f hc ha hb hy) fun _ => .ret (⟨⟩ : PUnit)) n l
      fun W => W (Proc.devRef .tc y) = f (W (Proc.devRef .tc c)) (W (Proc.devRef .tc a)) (W (Proc.devRef .tc b)) :=
  (one hn (line_ternary c a b y f hc ha hb hy h h' h'') hl).imp fun W h => by rw [← h, ternary_result]

/-- A reshape solves: its result is the operand at the new shape. -/
theorem reshape {x y : Ref sig .tc} {he hn' hx hy} (hn : n ≤ rk y) (h : rk x < rk y) (hl : rk y + 1 ≤ l) :
    Solves (Λ := Λ) (nD := nD) (hlo rfl (StableHlo.reshape (τ := τ) (Val := Val) x y he hn' hx hy) fun _ => .ret (⟨⟩ : PUnit)) n l
      fun W => W (Proc.devRef .tc y) = fun i => he ▸ shapeCast y.ty.shape (W (Proc.devRef .tc x)) hn' i :=
  (one hn (line_reshape x y he hn' hx hy h) hl).imp fun W h => by rw [← h, reshape_result]

/-- A program that is a straight line runs to contents with its equations, the buffers before its first place kept and all
    semaphores at zero. -/
theorem run {main : Dev nD → Prog (TpuEff nD τ sig Val Λ .tc) PUnit} (defs : Defs nD τ sig Val Λ) (h : ∀ d, Solves (main d) n l E)
    (hR : (Finset.univ.filter fun b : Ref sig .tc => b.isScoped) = ∅)
    (hC : (Finset.univ.filter fun sm : SemLoc sig => sm.isScoped .tc) = ∅)
    (m : (ℓ : Loc nD τ sig) → Buf Val ℓ) (ρ : Dev nD → PrngReg) :
    θ_run defs (onTc (τ := τ) main) ⟨m, fun _ => 0, ρ⟩ fun r => ∀ d : Dev nD, ∃ W : Valuation τ sig Val, E W
      ∧ (∀ b : Ref sig .tc, r.2.mem ((d.tc : Thread nD τ).loc b) = W (Proc.devRef .tc b))
      ∧ ∀ b : Ref sig .tc, rk b < n → W (Proc.devRef .tc b) = m ((d.tc : Thread nD τ).loc b) := by
  choose ops hp hs hW using h
  refine θ_run_mono (run_seq hR hC defs main ops hp (fun d => (hs d).bufs) m ρ fun d => (hs d).fresh) fun r hr d => ?_
  exact ⟨after (ops d) (launchContents m d), hW d _ ((hs d).fixed _), hr d, fun b hb => (hs d).after_eq _ b hb⟩

end Solves

/-- What contents hold at a typed reference. -/
abbrev val {T : BufTy} (W : Valuation τ sig Val) (x : TRef sig T) : T.Contents Val := x.ofBuf (W (Proc.devRef .tc x.ref))

section Typed

variable {T Tx Ta Tb Tc : BufTy} {n l k : ℕ} {E : Valuation τ sig Val → Prop} {q : Prog (TpuEff nD τ sig Val Λ .tc) PUnit}

/-- Contents put into a buffer and read back are the contents. -/
theorem ofBuf_toBuf (y : TRef sig T) (v : T.Contents Val) : y.ofBuf (y.toBuf v) = v := by simp

namespace Solves

/-- An operation of no operands, on a buffer of stated type. -/
theorem tnullary {y : TRef sig T} {v : T.Contents Val} (hn : n ≤ rk y.ref) (hl : rk y.ref + 1 ≤ l) :
    Solves (Λ := Λ) (nD := nD) (hlo rfl (TRef.nullary (τ := τ) y v) fun _ => .ret (⟨⟩ : PUnit)) n l fun W => val W y = v :=
  (nullary hn hl).imp fun W h => by rw [val, h, ofBuf_toBuf]

/-- An operation of one operand, on buffers of stated types. -/
theorem tunary {x : TRef sig Tx} {y : TRef sig T} {f : Tx.Contents Val → T.Contents Val} (hn : n ≤ rk y.ref) (h : rk x.ref < rk y.ref) (hl : rk y.ref + 1 ≤ l) :
    Solves (Λ := Λ) (nD := nD) (hlo rfl (TRef.unary (τ := τ) x y f) fun _ => .ret (⟨⟩ : PUnit)) n l fun W => val W y = f (val W x) :=
  (unary hn h hl).imp fun W h => by rw [val, h, ofBuf_toBuf]

/-- An operation of two operands, on buffers of stated types. -/
theorem tbinary {a : TRef sig Ta} {b : TRef sig Tb} {y : TRef sig T} {f : Ta.Contents Val → Tb.Contents Val → T.Contents Val} (hn : n ≤ rk y.ref)
    (h : rk a.ref < rk y.ref) (h' : rk b.ref < rk y.ref) (hl : rk y.ref + 1 ≤ l) :
    Solves (Λ := Λ) (nD := nD) (hlo rfl (TRef.binary (τ := τ) a b y f) fun _ => .ret (⟨⟩ : PUnit)) n l fun W => val W y = f (val W a) (val W b) :=
  (binary hn h h' hl).imp fun W h => by rw [val, h, ofBuf_toBuf]

/-- An operation of three operands, on buffers of stated types. -/
theorem tternary {c : TRef sig Tc} {a : TRef sig Ta} {b : TRef sig Tb} {y : TRef sig T} {f : Tc.Contents Val → Ta.Contents Val → Tb.Contents Val → T.Contents Val}
    (hn : n ≤ rk y.ref) (h : rk c.ref < rk y.ref) (h' : rk a.ref < rk y.ref) (h'' : rk b.ref < rk y.ref) (hl : rk y.ref + 1 ≤ l) :
    Solves (Λ := Λ) (nD := nD) (hlo rfl (TRef.ternary (τ := τ) c a b y f) fun _ => .ret (⟨⟩ : PUnit)) n l fun W => val W y = f (val W c) (val W a) (val W b) :=
  (ternary hn h h' h'' hl).imp fun W h => by rw [val, h, ofBuf_toBuf]

/-- A reshape, on buffers of stated types. -/
theorem treshape {x : TRef sig Tx} {y : TRef sig T} {he : Tx.elt = T.elt} {hs : Tx.shape.ShapeCasts T.shape} (hn : n ≤ rk y.ref)
    (h : rk x.ref < rk y.ref) (hl : rk y.ref + 1 ≤ l) :
    Solves (Λ := Λ) (nD := nD) (hlo rfl (TRef.reshape (τ := τ) (Val := Val) x y he hs) fun _ => .ret (⟨⟩ : PUnit)) n l
      fun W => val W y = fun i => he ▸ shapeCast T.shape (val W x) hs i := by
  obtain ⟨r, rfl, _, _⟩ := x
  obtain ⟨r', rfl, _, _⟩ := y
  exact reshape hn h hl

end Solves

end Typed

end Cert.Lines
-- ==== Proof.Threefry.lean ====
/-
  The hash that draws the dropout masks, on 32-bit words: twenty rounds in five groups of four, a pair of key words added
  after each group.
-/
module

public import Idealize.ShloMosaic.PureOps.Vector

@[expose] public section

namespace Cert.Threefry

open Idealize.ShloMosaic

/-- A word turned left by `a` places, where `b` is 32 less `a`. -/
def rot (a b x : BitVec 32) : BitVec 32 := x <<< a ||| x >>> b

/-- One round. -/
def mix (a b : BitVec 32) (p : BitVec 32 × BitVec 32) : BitVec 32 × BitVec 32 := (p.1 + p.2, (p.1 + p.2) ^^^ rot a b p.2)

/-- Two key words and the group's number added. -/
def inject (k k' c : BitVec 32) (p : BitVec 32 × BitVec 32) : BitVec 32 × BitVec 32 := (p.1 + k, p.2 + k' + c)

/-- Four rounds and an addition of keys, at the first and at the second set of turns. -/
def groupA (k k' c : BitVec 32) (p : BitVec 32 × BitVec 32) : BitVec 32 × BitVec 32 :=
  inject k k' c (mix 6#32 26#32 (mix 26#32 6#32 (mix 15#32 17#32 (mix 13#32 19#32 p))))
@[inherit_doc groupA]
def groupB (k k' c : BitVec 32) (p : BitVec 32 × BitVec 32) : BitVec 32 × BitVec 32 :=
  inject k k' c (mix 24#32 8#32 (mix 16#32 16#32 (mix 29#32 3#32 (mix 17#32 15#32 p))))

/-- The third key word. -/
def third (k k' : BitVec 32) : BitVec 32 := (k ^^^ k') ^^^ 466688986#32

/-- The hash of a pair of words under a key. -/
def hash (k k' : BitVec 32) (p : BitVec 32 × BitVec 32) : BitVec 32 × BitVec 32 :=
  groupA (third k k') k 5#32 <| groupB k' (third k k') 4#32 <| groupA k k' 3#32 <| groupB (third k k') k 2#32 <|
    groupA k' (third k k') 1#32 (p.1 + k, p.2 + k')

/-- The two words of a pair met. -/
def both (p : BitVec 32 × BitVec 32) : BitVec 32 := p.1 ^^^ p.2

/-- The random word at index `n` under a key's second word, its first word being zero. -/
def word (k n : BitVec 32) : BitVec 32 := both (hash 0#32 k (0#32, n))

/-- A group read off its rounds' sums and turned words. -/
theorem groupA_of {k k' c a b s y s' y' s'' y'' s''' y''' u v : BitVec 32} (hs : s = a + b) (hy : y = s ^^^ rot 13#32 19#32 b)
    (hs' : s' = s + y) (hy' : y' = s' ^^^ rot 15#32 17#32 y) (hs'' : s'' = s' + y') (hy'' : y'' = s'' ^^^ rot 26#32 6#32 y')
    (hs''' : s''' = s'' + y'') (hy''' : y''' = s''' ^^^ rot 6#32 26#32 y'') (hu : u = s''' + k) (hv : v = y''' + k' + c) :
    (u, v) = groupA k k' c (a, b) := by subst_vars; rfl

@[inherit_doc groupA_of]
theorem groupB_of {k k' c a b s y s' y' s'' y'' s''' y''' u v : BitVec 32} (hs : s = a + b) (hy : y = s ^^^ rot 17#32 15#32 b)
    (hs' : s' = s + y) (hy' : y' = s' ^^^ rot 29#32 3#32 y) (hs'' : s'' = s' + y') (hy'' : y'' = s'' ^^^ rot 16#32 16#32 y')
    (hs''' : s''' = s'' + y'') (hy''' : y''' = s''' ^^^ rot 24#32 8#32 y'') (hu : u = s''' + k) (hv : v = y''' + k' + c) :
    (u, v) = groupB k k' c (a, b) := by subst_vars; rfl

/-- The shift by an amount below thirty-two is the plain shift: left and right, on the host and on a vector. -/
theorem host_shli (x a : BitVec 32) (h : a.toNat < 32) : IntOp.shli .host x a = x <<< a := if_pos h
@[inherit_doc host_shli]
theorem host_shrui (x a : BitVec 32) (h : a.toNat < 32) : IntOp.shrui .host x a = x >>> a := if_pos h
@[inherit_doc host_shli]
theorem vector_shli (x a : BitVec 32) (h : a.toNat < 32) : IntOp.shli .vector x a = x <<< a := if_pos h
@[inherit_doc host_shli]
theorem vector_shrui (x a : BitVec 32) (h : a.toNat < 32) : IntOp.shrui .vector x a = x >>> a := if_pos h

/-- A row and a column counted at sixty-four bits: the low half of the place … -/
theorem low_half (m r c : ℕ) : (BitVec.ofNat 64 m * BitVec.ofNat 64 r + 1#64 * BitVec.ofNat 64 c).setWidth 32 = BitVec.ofNat 32 (m * r + c) := by
  rw [← BitVec.ofNat_mul, BitVec.one_mul, ← BitVec.ofNat_add]
  exact BitVec.setWidth_ofNat_of_le (by decide) _

/-- … and the high half, which is zero. -/
theorem high_half (m r c : ℕ) (h : m * r + c < 2 ^ 32) :
    (IntOp.shrui .host (BitVec.ofNat 64 m * BitVec.ofNat 64 r + 1#64 * BitVec.ofNat 64 c) 32#64).setWidth 32 = 0#32 := by
  rw [← BitVec.ofNat_mul, BitVec.one_mul, ← BitVec.ofNat_add, show IntOp.shrui .host (BitVec.ofNat 64 (m * r + c)) 32#64 = BitVec.ofNat 64 (m * r + c) >>> 32#64 from if_pos (by decide)]
  apply BitVec.eq_of_toNat_eq
  simp only [BitVec.toNat_setWidth, BitVec.ushiftRight_eq', BitVec.toNat_ushiftRight, BitVec.toNat_ofNat, Nat.shiftRight_eq_div_pow]
  rw [Nat.mod_eq_of_lt (by omega : m * r + c < 2 ^ 64)]
  rw [Nat.div_eq_of_lt (by simpa using h)]

end Cert.Threefry
-- ==== Proof.RefHash.lean ====
/-
  The reference's two runs of the hash: straight lines whose last contents hold the hash, index by index.
-/
module

public import proofs.«01_k».proof.Proof.Lines
public import proofs.«01_k».proof.Proof.Threefry
public import proofs.«01_k».proof.ReferenceIdeal

@[expose] public section

namespace Cert.ReferenceIdeal.Lines

open Idealize.ShloMosaic Idealize.ShloMosaic.StableHlo Idealize.SL.Sem
open Cert.Lines Cert.Threefry

variable {F : FTy → Type} [FloatOps F] [Facts]

variable {n l : ℕ} {Λ : Labels}

/-- A word turned, as the operations spell it: both amounts spread over the array, both shifts, their union, and another array
    met with it. -/
theorem turned {s : Shape} {a b : BitVec 32} {d d'} {h h'} {ca cb : IVec S_ 32} {ba shl bb shr o x y z : IVec s 32} (ha : a.toNat < 32) (hb : b.toNat < 32)
    (e1 : ca = constantI S_ 32 a) (e2 : ba = broadcastInDim s d h ca) (e3 : shl = Host.shli x ba) (e4 : cb = constantI S_ 32 b)
    (e5 : bb = broadcastInDim s d' h' cb) (e6 : shr = Host.shrui x bb) (e7 : o = ori shl shr) (e8 : y = xori z o) (i : s.Idx) :
    y i = z i ^^^ rot a b (x i) := by
  rw [e8, e7, e3, e6, e2, e5, e1, e4]
  show z i ^^^ (IntOp.shli .host (x i) a ||| IntOp.shrui .host (x i) b) = _
  rw [host_shli _ _ ha, host_shrui _ _ hb]; rfl

/-- A round's eight operations — both amounts spread over the array, both shifts, their union, and the sum met with it —
    leave the round's turned word. -/
theorem round {s : Shape} {a b : BitVec 32} {d d'} {h h'} {ca cb : TRef sig ⟨S_, .i32⟩} {ba shl bb shr o x y z : TRef sig ⟨s, .i32⟩}
    {q : Prog (TpuEff nD τ sig (Elt F) Λ .tc) PUnit} {E : Valuation τ sig (Elt F) → Prop}
    (ha : a.toNat < 32) (hb : b.toNat < 32)
    (h1 : n ≤ rk ca.ref) (h2 : rk ba.ref = rk ca.ref + 1) (h3 : rk shl.ref = rk ca.ref + 2) (h4 : rk cb.ref = rk ca.ref + 3)
    (h5 : rk bb.ref = rk ca.ref + 4) (h6 : rk shr.ref = rk ca.ref + 5) (h7 : rk o.ref = rk ca.ref + 6) (h8 : rk y.ref = rk ca.ref + 7)
    (hx : rk x.ref < rk ca.ref) (hz : rk z.ref < rk ca.ref)
    (hq : Solves q (rk y.ref + 1) l E) :
    Solves (do
      hlo rfl (TRef.nullary ca (constantI S_ 32 a)) (fun _ => .ret ⟨⟩)
      hlo rfl (TRef.unary ca ba (broadcastInDim s d h)) (fun _ => .ret ⟨⟩)
      hlo rfl (TRef.binary x ba shl Host.shli) (fun _ => .ret ⟨⟩)
      hlo rfl (TRef.nullary cb (constantI S_ 32 b)) (fun _ => .ret ⟨⟩)
      hlo rfl (TRef.unary cb bb (broadcastInDim s d' h')) (fun _ => .ret ⟨⟩)
      hlo rfl (TRef.binary x bb shr Host.shrui) (fun _ => .ret ⟨⟩)
      hlo rfl (TRef.binary shl shr o ori) (fun _ => .ret ⟨⟩)
      hlo rfl (TRef.binary z o y xori) (fun _ => .ret ⟨⟩)
      q) n l fun W => (∀ i, val W y i = val W z i ^^^ rot a b (val W x i)) ∧ E W := by
  refine Solves.imp (Solves.bind (Solves.tnullary h1 le_rfl) <| Solves.bind (Solves.tunary (by omega) (by omega) le_rfl) <|
    Solves.bind (Solves.tbinary (by omega) (by omega) (by omega) le_rfl) <| Solves.bind (Solves.tnullary (by omega) le_rfl) <|
    Solves.bind (Solves.tunary (by omega) (by omega) le_rfl) <| Solves.bind (Solves.tbinary (by omega) (by omega) (by omega) le_rfl) <|
    Solves.bind (Solves.tbinary (by omega) (by omega) (by omega) le_rfl) <| Solves.bind (Solves.tbinary (by omega) (by omega) (by omega) le_rfl) hq) ?_
  rintro W ⟨e1, e2, e3, e4, e5, e6, e7, e8, hE⟩
  exact ⟨turned ha hb e1 e2 e3 e4 e5 e6 e7 e8, hE⟩

/-- The one index of an array of no axes. -/
def z0 : S_.Idx := fun a => a.elim0

/-- A scalar spread over an array is the scalar at each index. -/
theorem spread {s : Shape} {α : Type} {d : Fin S_.rank → Fin s.rank} {h} (x : S_.Idx → α) (i : s.Idx) : broadcastInDim s d h x i = x z0 :=
  congrArg x (funext fun a => a.elim0)

/-- The seven operations that add two key words and a number. -/
theorem adds {s : Shape} {c : BitVec 32} {d d' d''} {h h' h''} {k k' cc : TRef sig ⟨S_, .i32⟩} {bk bk' bc x y u w v : TRef sig ⟨s, .i32⟩}
    {q : Prog (TpuEff nD τ sig (Elt F) Λ .tc) PUnit} {E : Valuation τ sig (Elt F) → Prop}
    (h1 : n ≤ rk bk.ref) (h2 : rk u.ref = rk bk.ref + 1) (h3 : rk bk'.ref = rk bk.ref + 2) (h4 : rk w.ref = rk bk.ref + 3)
    (h5 : rk cc.ref = rk bk.ref + 4) (h6 : rk bc.ref = rk bk.ref + 5) (h7 : rk v.ref = rk bk.ref + 6)
    (hx : rk x.ref < rk bk.ref) (hy : rk y.ref < rk bk.ref) (hk : rk k.ref < rk bk.ref) (hk' : rk k'.ref < rk bk.ref)
    (hq : Solves q (rk v.ref + 1) l E) :
    Solves (do
      hlo rfl (TRef.unary k bk (broadcastInDim s d h)) (fun _ => .ret ⟨⟩)
      hlo rfl (TRef.binary x bk u addi) (fun _ => .ret ⟨⟩)
      hlo rfl (TRef.unary k' bk' (broadcastInDim s d' h')) (fun _ => .ret ⟨⟩)
      hlo rfl (TRef.binary y bk' w addi) (fun _ => .ret ⟨⟩)
      hlo rfl (TRef.nullary cc (constantI S_ 32 c)) (fun _ => .ret ⟨⟩)
      hlo rfl (TRef.unary cc bc (broadcastInDim s d'' h'')) (fun _ => .ret ⟨⟩)
      hlo rfl (TRef.binary w bc v addi) (fun _ => .ret ⟨⟩)
      q) n l fun W => ((∀ i, val W u i = val W x i + val W k z0) ∧ ∀ i, val W v i = val W y i + val W k' z0 + c) ∧ E W := by
  refine Solves.imp (Solves.bind (Solves.tunary h1 (by omega) le_rfl) <| Solves.bind (Solves.tbinary (by omega) (by omega) (by omega) le_rfl) <|
    Solves.bind (Solves.tunary (by omega) (by omega) le_rfl) <| Solves.bind (Solves.tbinary (by omega) (by omega) (by omega) le_rfl) <|
    Solves.bind (Solves.tnullary (by omega) le_rfl) <| Solves.bind (Solves.tunary (by omega) (by omega) le_rfl) <|
    Solves.bind (Solves.tbinary (by omega) (by omega) (by omega) le_rfl) hq) ?_
  rintro W ⟨e1, e2, e3, e4, e5, e6, e7, hE⟩
  refine ⟨⟨fun i => ?_, fun i => ?_⟩, hE⟩
  · rw [e2, e1]
    show val W x i + broadcastInDim s d h (val W k) i = _
    rw [spread]
  · rw [e7, e4, e3, e6, e5]
    show val W y i + broadcastInDim s d' h' (val W k') i + c = _
    rw [spread]

/-- The first run of the hash leaves the hash of the two count arrays under the two key words. -/
theorem hash1 : Solves (fn_threefry2x32.body (F := F) main_call1_call0.v5 main_call1_call0.v7 main_call1_call0.v18 main_call1_call0.v17 main_call1_call0_call0)
    (rk main_call1_call0.v18.ref + 1) (rk main_call1_call0_call0.v175.ref + 1)
    fun W => ∀ i, (val W main_call1_call0_call0.v171 i, val W main_call1_call0_call0.v175 i)
      = Threefry.hash (val W main_call1_call0.v5 z0) (val W main_call1_call0.v7 z0) (val W main_call1_call0.v18 i, val W main_call1_call0.v17 i) := by
  apply Solves.imp
  · unfold fn_threefry2x32.body fn_threefry2x32.body_part0 fn_threefry2x32.body_part1 fn_threefry2x32.body_part2 fn_threefry2x32.body_part3
    repeat' first
      | (with_reducible apply round <;> first | decide | skip)
      | (with_reducible apply adds <;> first | decide | skip)
      | (with_reducible apply Solves.bind)
      | (with_reducible apply Solves.tbinary <;> first | exact le_rfl | decide)
      | (with_reducible apply Solves.tunary <;> first | exact le_rfl | decide)
      | (with_reducible apply Solves.tnullary <;> first | exact le_rfl | decide)
      | exact Solves.nil le_rfl
  · rintro W ⟨⟨h0, hc, h1, h2, h3, h4, h5, h6, r12, h13, r19, h20, r26, h27, r33, i1, h40, r46, h47⟩,
      ⟨r53, h54, r60, h61, r67, i2, h74, r80, h81, r87, h88, t1, t2, t3, t4, t5, t6, t7, t8⟩,
      ⟨h95, r101, i3, h108, r114, h115, r121, h122, r128, h129, r135, i4, h142⟩,
      ⟨r148, h149, r155, h156, r162, h163, r169, i5, -⟩⟩ i
    have ht : val W main_call1_call0_call0.v1 z0 = third (val W main_call1_call0.v5 z0) (val W main_call1_call0.v7 z0) := by
      rw [h1, hc, h0]; rfl
    have r94 := turned (by decide) (by decide) t1 t2 t3 t4 t5 t6 t7 t8
    have a3 : val W main_call1_call0_call0.v3 i = val W main_call1_call0.v18 i + val W main_call1_call0.v5 z0 := by
      rw [h3, h2]; exact congrArg (val W main_call1_call0.v18 i + ·) (spread _ i)
    have a5 : val W main_call1_call0_call0.v5 i = val W main_call1_call0.v17 i + val W main_call1_call0.v7 z0 := by
      rw [h5, h4]; exact congrArg (val W main_call1_call0.v17 i + ·) (spread _ i)
    have g1 := groupA_of (congrFun h6 i) (r12 i) (congrFun h13 i) (r19 i) (congrFun h20 i) (r26 i) (congrFun h27 i) (r33 i) (i1.1 i) (i1.2 i)
    have g2 := groupB_of (congrFun h40 i) (r46 i) (congrFun h47 i) (r53 i) (congrFun h54 i) (r60 i) (congrFun h61 i) (r67 i) (i2.1 i) (i2.2 i)
    have g3 := groupA_of (congrFun h74 i) (r80 i) (congrFun h81 i) (r87 i) (congrFun h88 i) (r94 i) (congrFun h95 i) (r101 i) (i3.1 i) (i3.2 i)
    have g4 := groupB_of (congrFun h108 i) (r114 i) (congrFun h115 i) (r121 i) (congrFun h122 i) (r128 i) (congrFun h129 i) (r135 i) (i4.1 i) (i4.2 i)
    have g5 := groupA_of (congrFun h142 i) (r148 i) (congrFun h149 i) (r155 i) (congrFun h156 i) (r162 i) (congrFun h163 i) (r169 i) (i5.1 i) (i5.2 i)
    rw [g5, g4, g3, g2, g1, ht, a3, a5, Threefry.hash]

/-- The second run of the hash leaves the hash of the two count arrays under the two key words. -/
theorem hash2 : Solves (fn_threefry2x32_2.body (F := F) main_call3_call0.v5 main_call3_call0.v7 main_call3_call0.v18 main_call3_call0.v17 main_call3_call0_call0)
    (rk main_call3_call0.v18.ref + 1) (rk main_call3_call0_call0.v175.ref + 1)
    fun W => ∀ i, (val W main_call3_call0_call0.v171 i, val W main_call3_call0_call0.v175 i)
      = Threefry.hash (val W main_call3_call0.v5 z0) (val W main_call3_call0.v7 z0) (val W main_call3_call0.v18 i, val W main_call3_call0.v17 i) := by
  apply Solves.imp
  · unfold fn_threefry2x32_2.body fn_threefry2x32_2.body_part0 fn_threefry2x32_2.body_part1 fn_threefry2x32_2.body_part2 fn_threefry2x32_2.body_part3
    repeat' first
      | (with_reducible apply round <;> first | decide | skip)
      | (with_reducible apply adds <;> first | decide | skip)
      | (with_reducible apply Solves.bind)
      | (with_reducible apply Solves.tbinary <;> first | exact le_rfl | decide)
      | (with_reducible apply Solves.tunary <;> first | exact le_rfl | decide)
      | (with_reducible apply Solves.tnullary <;> first | exact le_rfl | decide)
      | exact Solves.nil le_rfl
  · rintro W ⟨⟨h0, hc, h1, h2, h3, h4, h5, h6, r12, h13, r19, h20, r26, h27, r33, i1, h40, r46, h47⟩,
      ⟨r53, h54, r60, h61, r67, i2, h74, r80, h81, r87, h88, t1, t2, t3, t4, t5, t6, t7, t8⟩,
      ⟨h95, r101, i3, h108, r114, h115, r121, h122, r128, h129, r135, i4, h142⟩,
      ⟨r148, h149, r155, h156, r162, h163, r169, i5, -⟩⟩ i
    have ht : val W main_call3_call0_call0.v1 z0 = third (val W main_call3_call0.v5 z0) (val W main_call3_call0.v7 z0) := by
      rw [h1, hc, h0]; rfl
    have r94 := turned (by decide) (by decide) t1 t2 t3 t4 t5 t6 t7 t8
    have a3 : val W main_call3_call0_call0.v3 i = val W main_call3_call0.v18 i + val W main_call3_call0.v5 z0 := by
      rw [h3, h2]; exact congrArg (val W main_call3_call0.v18 i + ·) (spread _ i)
    have a5 : val W main_call3_call0_call0.v5 i = val W main_call3_call0.v17 i + val W main_call3_call0.v7 z0 := by
      rw [h5, h4]; exact congrArg (val W main_call3_call0.v17 i + ·) (spread _ i)
    have g1 := groupA_of (congrFun h6 i) (r12 i) (congrFun h13 i) (r19 i) (congrFun h20 i) (r26 i) (congrFun h27 i) (r33 i) (i1.1 i) (i1.2 i)
    have g2 := groupB_of (congrFun h40 i) (r46 i) (congrFun h47 i) (r53 i) (congrFun h54 i) (r60 i) (congrFun h61 i) (r67 i) (i2.1 i) (i2.2 i)
    have g3 := groupA_of (congrFun h74 i) (r80 i) (congrFun h81 i) (r87 i) (congrFun h88 i) (r94 i) (congrFun h95 i) (r101 i) (i3.1 i) (i3.2 i)
    have g4 := groupB_of (congrFun h108 i) (r114 i) (congrFun h115 i) (r121 i) (congrFun h122 i) (r128 i) (congrFun h129 i) (r135 i) (i4.1 i) (i4.2 i)
    have g5 := groupA_of (congrFun h142 i) (r148 i) (congrFun h149 i) (r155 i) (congrFun h156 i) (r162 i) (congrFun h163 i) (r169 i) (i5.1 i) (i5.2 i)
    rw [g5, g4, g3, g2, g1, ht, a3, a5, Threefry.hash]

end Cert.ReferenceIdeal.Lines
-- ==== Proof.Draw.lean ====
/-
  A uniform draw made from a random word is below one half exactly where the word's top bit is zero.
-/
module

public import Idealize.ShloMosaic.PureOps.Ideal
public import Idealize.ShloMosaic.Lib.Pointwise

@[expose] public section

namespace Cert.Draw

open Idealize.ShloMosaic

/-- The word of a number between one and two: its fraction is the random word's upper twenty-three bits. -/
theorem word_toNat (b : BitVec 32) : (b >>> 9#32 ||| 1065353216#32).toNat = 127 * 2 ^ 23 + b.toNat / 2 ^ 9 := by
  have hb := b.isLt
  have hk : b.toNat / 2 ^ 9 < 2 ^ 23 := by omega
  rw [BitVec.toNat_or, BitVec.ushiftRight_eq', BitVec.toNat_ushiftRight, Nat.shiftRight_eq_div_pow]
  have := Nat.two_pow_add_eq_or_of_lt hk 127
  rw [Nat.or_comm]
  show 1065353216 ||| b.toNat / 2 ^ 9 = _
  rw [show (1065353216 : ℕ) = 2 ^ 23 * 127 from by norm_num, ← this]
  ring

/-- The number that word denotes. -/
theorem ofBits_word (b : BitVec 32) :
    Ideal.ofBits .f32 (b >>> 9#32 ||| 1065353216#32) = ((1 + (b.toNat / 2 ^ 9 : ℕ) / 2 ^ 23 : ℝ) : EReal) := by
  have hb := b.isLt
  have hk : b.toNat / 2 ^ 9 < 2 ^ 23 := by omega
  have hw := word_toNat b
  generalize (b >>> 9#32 ||| 1065353216#32) = w at hw
  generalize b.toNat / 2 ^ 9 = k at hk hw
  have h1 : (w.extractLsb' 31 1).toNat = 0 := by
    rw [BitVec.extractLsb'_toNat, Nat.shiftRight_eq_div_pow, hw]; omega
  have h2 : (w.extractLsb' 23 8).toNat = 127 := by
    rw [BitVec.extractLsb'_toNat, Nat.shiftRight_eq_div_pow, hw]; omega
  have h3 : (w.extractLsb' 0 23).toNat = k := by
    rw [BitVec.extractLsb'_toNat, Nat.shiftRight_eq_div_pow, hw]; omega
  have h1' : (w.extractLsb' 31 1 == 1#1) = false := by
    rw [beq_eq_false_iff_ne]; intro h; rw [h] at h1; exact absurd h1 (by decide)
  show Ideal.ieee 8 23 w = _
  unfold Ideal.ieee
  simp only [h1', h2, h3]
  rw [if_neg (by norm_num), if_neg (by norm_num)]
  refine congrArg (fun x : ℝ => (x : EReal)) ?_
  push_cast
  norm_num
  ring

/-- The float word of one half. -/
theorem ofBits_half : Ideal.ofBits .f32 1056964608#32 = ((1 / 2 : ℝ) : EReal) := by
  simp [Ideal.ofBits, Ideal.ieee, -EReal.coe_mul]; norm_num

/-- The float word of one. -/
theorem ofBits_one : Ideal.ofBits .f32 1065353216#32 = 1 := by
  simp [Ideal.ofBits, Ideal.ieee, -EReal.coe_mul]; norm_num

/-- The float word of zero. -/
theorem ofBits_zero : Ideal.ofBits .f32 0#32 = 0 := by
  simp [Ideal.ofBits, Ideal.ieee]

/-- The draw lies below one half exactly where the word's top bit is zero. -/
theorem draw_lt (b : BitVec 32) :
    max 0 ((Ideal.ofBits .f32 (b >>> 9#32 ||| 1065353216#32) - 1) * (1 - 0) + 0) < Ideal.ofBits .f32 1056964608#32 ↔ b >>> 31#32 = 0#32 := by
  have hb := b.isLt
  rw [ofBits_word, ofBits_half]
  have e : ((((1 + (b.toNat / 2 ^ 9 : ℕ) / 2 ^ 23 : ℝ) : EReal) - 1) * (1 - 0) + 0 : EReal) = (((b.toNat / 2 ^ 9 : ℕ) / 2 ^ 23 : ℝ) : EReal) := by
    rw [sub_zero, mul_one, add_zero, ← EReal.coe_one, ← EReal.coe_sub]; congr 1; ring
  rw [e, max_eq_right (by exact_mod_cast (by positivity : (0 : ℝ) ≤ (b.toNat / 2 ^ 9 : ℕ) / 2 ^ 23)), EReal.coe_lt_coe_iff, ← BitVec.toNat_inj,
    BitVec.ushiftRight_eq', BitVec.toNat_ushiftRight, Nat.shiftRight_eq_div_pow, div_lt_div_iff₀ (by norm_num) (by norm_num)]
  show _ ↔ b.toNat / 2 ^ 31 = 0
  constructor
  · intro h
    have h' : (b.toNat / 2 ^ 9) * 2 < 1 * 2 ^ 23 := by exact_mod_cast h
    omega
  · intro h
    have h' : (b.toNat / 2 ^ 9) * 2 < 1 * 2 ^ 23 := by omega
    exact_mod_cast h'

end Cert.Draw
-- ==== Proof.RefRun.lean ====
/-
  The reference's whole program as one straight line, and the equations its final contents solve.
-/
module

public import proofs.«01_k».proof.Proof.RefHash
public import proofs.«01_k».proof.Proof.Draw

@[expose] public section

namespace Cert.ReferenceIdeal.Lines

open Idealize.ShloMosaic Idealize.ShloMosaic.StableHlo Idealize.SL.Sem
open Cert.Lines Cert.Threefry

variable [Facts]

/-- The one index of an array of no axes, in its other spelling. -/
theorem z0_eq : z0 = ix0 := funext fun a => a.elim0

/-- The two keys' buffers. -/
abbrev key1 : TRef sig ⟨S2, .i32⟩ := .of main_v6
@[inherit_doc key1]
abbrev key2 : TRef sig ⟨S2, .i32⟩ := .of main_v13

/-- The two thresholds' buffers. -/
abbrev half1 : TRef sig ⟨S_, .f32⟩ := .of main_cst
@[inherit_doc half1]
abbrev half2 : TRef sig ⟨S_, .f32⟩ := .of main_cst_7

/-- The uniform draw at an index of the first mask: the word it is made from, and the draw from that word. -/
theorem uniform1 : Solves (fn_uniform.body (F := Ideal) key1 main_call1.cst main_call1.cst_0 main_call1_call0)
    (rk main_call1.cst_0.ref + 1) (rk main_call1_call0.v34.ref + 1)
    fun W => ∀ (r : Fin 10000) (c : Fin 32),
      val W main_call1_call0.v20 (ix2 r c) = both (Threefry.hash (val W key1 (ix1 0)) (val W key1 (ix1 1)) (0#32, BitVec.ofNat 32 (32 * r + c)))
      ∧ val W main_call1_call0.v34 (ix2 r c) = max (val W main_call1.cst ix0)
        ((Ideal.ofBits .f32 (val W main_call1_call0.v20 (ix2 r c) >>> 9#32 ||| 1065353216#32) - 1) * (val W main_call1.cst_0 ix0 - val W main_call1.cst ix0) + val W main_call1.cst ix0) := by
  apply Solves.imp
  · unfold fn_uniform.body
    repeat' first
      | (with_reducible apply hash1)
      | (with_reducible apply Solves.bind)
      | (with_reducible apply Solves.tbinary <;> first | exact le_rfl | decide)
      | (with_reducible apply Solves.tunary <;> first | exact le_rfl | decide)
      | (with_reducible apply Solves.tnullary <;> first | exact le_rfl | decide)
      | (with_reducible apply Solves.treshape <;> first | exact le_rfl | decide)
      | exact Solves.nil le_rfl
  · rintro W ⟨h0, h1, h2, h3, h4, h5, h6, h7, h8, h9, hc, h10, h11, hc0, h12, h13, h14, hc1, h15, h16, h17, h18, hh, h20, hc2, h21, h22, hc3, h23, h24,
      h25, hcst, h26, h27, h28, h29, h30, h31, h32, h33, h34, -⟩ r c
    have e5 : val W main_call1_call0.v5 z0 = val W key1 (ix1 0) := by rw [h5, h4, z0_eq]; pointwise
    have e7 : val W main_call1_call0.v7 z0 = val W key1 (ix1 1) := by rw [h7, h6, z0_eq]; pointwise
    have e17 : val W main_call1_call0.v17 (ix2 r c) = BitVec.ofNat 32 (32 * r + c) := by
      rw [h17, h14, h13, h12, hc0, h11, h10, hc, h8, h9]; pointwise; exact low_half 32 r c
    have e18 : val W main_call1_call0.v18 (ix2 r c) = 0#32 := by
      rw [h18, h16, h15, hc1, h14, h13, h12, hc0, h11, h10, hc, h8, h9]; pointwise; exact high_half 32 r c (by omega)
    constructor
    · have e := hh (ix2 r c)
      rw [e5, e7, e17, e18] at e
      rw [h20, ← e]; rfl
    · rw [h34, h33, h32, h31, h30, h29, h28, h27, h26, hcst, h25, h24, h23, hc3, h22, h21, hc2, h3, h2, h1, h0]
      pointwise; rfl

/-- The first mask is set at an index exactly where the random word drawn there has its top bit zero. -/
theorem mask1 : Solves (fn_bernoulli.body (F := Ideal) key1 half1 main_call1) (rk main_cst + 1) (rk main_v20 + 1)
    fun W => val W half1 ix0 = Ideal.ofBits .f32 1056964608#32 → ∀ (r : Fin 10000) (c : Fin 32),
      val W main_call1.v2 (ix2 r c) = BitVec.ofBool (decide (both (Threefry.hash (val W key1 (ix1 0)) (val W key1 (ix1 1)) (0#32, BitVec.ofNat 32 (32 * r + c))) >>> 31#32 = 0#32)) := by
  apply Solves.imp
  · unfold fn_bernoulli.body
    repeat' first
      | (with_reducible apply uniform1)
      | (with_reducible apply Solves.bind)
      | (with_reducible apply Solves.tbinary <;> first | exact le_rfl | decide)
      | (with_reducible apply Solves.tunary <;> first | exact le_rfl | decide)
      | (with_reducible apply Solves.tnullary <;> first | exact le_rfl | decide)
      | exact Solves.nil le_rfl
  · rintro W ⟨h0, h1, hu, h2, h3, -⟩ hp r c
    obtain ⟨hw, hu⟩ := hu r c
    have e : val W main_call1.v2 (ix2 r c) = BitVec.ofBool (decide (val W main_call1_call0.v34 (ix2 r c) < val W half1 ix0)) := by
      rw [h3, h2]; pointwise
    rw [e, hu, hp, h0, h1, hw]
    have e0 : (constant (F := Ideal) S_ .f32 0#32 ix0 : EReal) = 0 := Draw.ofBits_zero
    have e1 : (constant (F := Ideal) S_ .f32 1065353216#32 ix0 : EReal) = 1 := Draw.ofBits_one
    rw [e0, e1]
    exact congrArg BitVec.ofBool (decide_eq_decide.mpr (Draw.draw_lt _))

/-- The uniform draw at an index of the second mask: the word it is made from, and the draw from that word. -/
theorem uniform2 : Solves (fn_uniform_1.body (F := Ideal) key2 main_call3.cst main_call3.cst_0 main_call3_call0)
    (rk main_call3.cst_0.ref + 1) (rk main_call3_call0.v34.ref + 1)
    fun W => ∀ (r : Fin 10000) (c : Fin 18),
      val W main_call3_call0.v20 (ix2 r c) = both (Threefry.hash (val W key2 (ix1 0)) (val W key2 (ix1 1)) (0#32, BitVec.ofNat 32 (18 * r + c)))
      ∧ val W main_call3_call0.v34 (ix2 r c) = max (val W main_call3.cst ix0)
        ((Ideal.ofBits .f32 (val W main_call3_call0.v20 (ix2 r c) >>> 9#32 ||| 1065353216#32) - 1) * (val W main_call3.cst_0 ix0 - val W main_call3.cst ix0) + val W main_call3.cst ix0) := by
  apply Solves.imp
  · unfold fn_uniform_1.body
    repeat' first
      | (with_reducible apply hash2)
      | (with_reducible apply Solves.bind)
      | (with_reducible apply Solves.tbinary <;> first | exact le_rfl | decide)
      | (with_reducible apply Solves.tunary <;> first | exact le_rfl | decide)
      | (with_reducible apply Solves.tnullary <;> first | exact le_rfl | decide)
      | (with_reducible apply Solves.treshape <;> first | exact le_rfl | decide)
      | exact Solves.nil le_rfl
  · rintro W ⟨h0, h1, h2, h3, h4, h5, h6, h7, h8, h9, hc, h10, h11, hc0, h12, h13, h14, hc1, h15, h16, h17, h18, hh, h20, hc2, h21, h22, hc3, h23, h24,
      h25, hcst, h26, h27, h28, h29, h30, h31, h32, h33, h34, -⟩ r c
    have e5 : val W main_call3_call0.v5 z0 = val W key2 (ix1 0) := by rw [h5, h4, z0_eq]; pointwise
    have e7 : val W main_call3_call0.v7 z0 = val W key2 (ix1 1) := by rw [h7, h6, z0_eq]; pointwise
    have e17 : val W main_call3_call0.v17 (ix2 r c) = BitVec.ofNat 32 (18 * r + c) := by
      rw [h17, h14, h13, h12, hc0, h11, h10, hc, h8, h9]; pointwise; exact low_half 18 r c
    have e18 : val W main_call3_call0.v18 (ix2 r c) = 0#32 := by
      rw [h18, h16, h15, hc1, h14, h13, h12, hc0, h11, h10, hc, h8, h9]; pointwise; exact high_half 18 r c (by omega)
    constructor
    · have e := hh (ix2 r c)
      rw [e5, e7, e17, e18] at e
      rw [h20, ← e]; rfl
    · rw [h34, h33, h32, h31, h30, h29, h28, h27, h26, hcst, h25, h24, h23, hc3, h22, h21, hc2, h3, h2, h1, h0]
      pointwise; rfl

/-- The second mask is set at an index exactly where the random word drawn there has its top bit zero. -/
theorem mask2 : Solves (fn_bernoulli_0.body (F := Ideal) key2 half2 main_call3) (rk main_cst_7 + 1) (rk main_v30 + 1)
    fun W => val W half2 ix0 = Ideal.ofBits .f32 1056964608#32 → ∀ (r : Fin 10000) (c : Fin 18),
      val W main_call3.v2 (ix2 r c) = BitVec.ofBool (decide (both (Threefry.hash (val W key2 (ix1 0)) (val W key2 (ix1 1)) (0#32, BitVec.ofNat 32 (18 * r + c))) >>> 31#32 = 0#32)) := by
  apply Solves.imp
  · unfold fn_bernoulli_0.body
    repeat' first
      | (with_reducible apply uniform2)
      | (with_reducible apply Solves.bind)
      | (with_reducible apply Solves.tbinary <;> first | exact le_rfl | decide)
      | (with_reducible apply Solves.tunary <;> first | exact le_rfl | decide)
      | (with_reducible apply Solves.tnullary <;> first | exact le_rfl | decide)
      | exact Solves.nil le_rfl
  · rintro W ⟨h0, h1, hu, h2, h3, -⟩ hp r c
    obtain ⟨hw, hu⟩ := hu r c
    have e : val W main_call3.v2 (ix2 r c) = BitVec.ofBool (decide (val W main_call3_call0.v34 (ix2 r c) < val W half2 ix0)) := by
      rw [h3, h2]; pointwise
    rw [e, hu, hp, h0, h1, hw]
    have e0 : (constant (F := Ideal) S_ .f32 0#32 ix0 : EReal) = 0 := Draw.ofBits_zero
    have e1 : (constant (F := Ideal) S_ .f32 1065353216#32 ix0 : EReal) = 1 := Draw.ofBits_one
    rw [e0, e1]
    exact congrArg BitVec.ofBool (decide_eq_decide.mpr (Draw.draw_lt _))

end Cert.ReferenceIdeal.Lines
-- ==== Proof.Spec.lean ====
/-
  The network both programs compute, over extended reals: three layers of "multiply by the weights, mix by the
  adjacency, add the bias", the first two dropping out half of their entries, and a row-wise log-softmax.
-/
module

public import proofs.«01_k».proof.Proof.Draw
public import proofs.«01_k».proof.Proof.Threefry

@[expose] public section

noncomputable section

namespace Cert.Spec

open Idealize.ShloMosaic

/-- A matrix read off an array of two axes. -/
abbrev mat {n k : ℕ} (X : (⟨2, ![n, k]⟩ : Shape).Idx → EReal) (r : Fin n) (c : Fin k) : EReal := X (ix2 r c)

/-- The product of two matrices. -/
def mm {n k l : ℕ} (A : Fin n → Fin k → EReal) (B : Fin k → Fin l → EReal) (r : Fin n) (c : Fin l) : EReal := ∑ j, A r j * B j c

/-- Whether dropout keeps the entry at a row and column: the random word the key draws for it has its top bit zero. -/
def Kept {n : ℕ} (key : BitVec 32) (k : ℕ) (r : Fin n) (c : Fin k) : Prop := Threefry.word key (BitVec.ofNat 32 (k * r + c)) >>> 31#32 = 0#32

instance {n : ℕ} (key : BitVec 32) (k : ℕ) (r : Fin n) (c : Fin k) : Decidable (Kept key k r c) := inferInstanceAs (Decidable (_ = _))

/-- Dropout of half the entries: a kept entry is divided by one half, a dropped one is zero. -/
def drop {n k : ℕ} (key : BitVec 32) (h : Fin n → Fin k → EReal) (r : Fin n) (c : Fin k) : EReal :=
  if Kept key k r c then Ideal.div (h r c) (Ideal.ofBits .f32 1056964608#32) else 0

/-- A row's greatest entry, from minus infinity. -/
def top {n k : ℕ} (z : Fin n → Fin k → EReal) (r : Fin n) : EReal := Finset.fold max (Ideal.ofBits .f32 4286578688#32) (fun c => z r c) Finset.univ

/-- The logarithm of a row's softmax. -/
def logSoftmax {n k : ℕ} (z : Fin n → Fin k → EReal) (r : Fin n) (c : Fin k) : EReal :=
  z r c - top z r - Ideal.log (∑ j, Ideal.exp (z r j - top z r))

/-- The first layer after dropout. -/
def layer1 {n d a : ℕ} (x : Fin n → Fin d → EReal) (A : Fin n → Fin n → EReal) (w1 : Fin d → Fin a → EReal) (b1 : Fin a → EReal) : Fin n → Fin a → EReal :=
  drop 101#32 fun r c => max (mm A (mm x w1) r c + b1 c) 0

/-- A later layer before dropout. -/
def layer {n a b : ℕ} (A : Fin n → Fin n → EReal) (h : Fin n → Fin a → EReal) (w : Fin a → Fin b → EReal) (β : Fin b → EReal) (r : Fin n) (c : Fin b) : EReal :=
  mm A (mm h w) r c + β c

/-- The whole network. -/
def net {n d a b e : ℕ} (x : Fin n → Fin d → EReal) (A : Fin n → Fin n → EReal) (w1 : Fin d → Fin a → EReal) (b1 : Fin a → EReal)
    (w2 : Fin a → Fin b → EReal) (b2 : Fin b → EReal) (w3 : Fin b → Fin e → EReal) (b3 : Fin e → EReal) : Fin n → Fin e → EReal :=
  logSoftmax (layer A (drop 202#32 (layer A (layer1 x A w1 b1) w2 b2)) w3 b3)

/-- The greater of minus infinity and a row's greatest entry is the latter. -/
theorem max_top {n k : ℕ} (z : Fin n → Fin k → EReal) (r : Fin n) : max (Ideal.ofBits .f32 4286578688#32) (top z r) = top z r :=
  max_eq_right ((Finset.le_fold_max _).mpr (.inl le_rfl))

end Cert.Spec
-- ==== Proof.RefMain.lean ====
/-
  The reference's results, in closed form: what each array of its straight line holds at an index.
-/
module

public import proofs.«01_k».proof.Proof.RefRun
public import proofs.«01_k».proof.Proof.Spec
public import proofs.«01_k».proof.Defs

@[expose] public section

namespace Cert.ReferenceIdeal.Lines

open Idealize.ShloMosaic Idealize.ShloMosaic.StableHlo Idealize.SL.Sem
open Cert.Lines Cert.Threefry Cert.Spec

variable [Facts]

/-- The reference's relu: the greater of an entry and zero. -/
theorem relu : Solves (fn_relu.body (F := Ideal) (.of main_v18) main_call0) (rk main_v18 + 1) (rk main_v19 + 1)
    fun W => ∀ (r : Fin 10000) (c : Fin 32), val W (.of main_v19 : TRef sig ⟨S10000x32, .f32⟩) (ix2 r c) = max (val W (.of main_v18 : TRef sig ⟨S10000x32, .f32⟩) (ix2 r c)) 0 := by
  apply Solves.imp
  · unfold fn_relu.body
    repeat' first
      | (with_reducible apply Solves.bind)
      | (with_reducible apply Solves.tbinary <;> first | exact le_rfl | decide)
      | (with_reducible apply Solves.tunary <;> first | exact le_rfl | decide)
      | (with_reducible apply Solves.tnullary <;> first | exact le_rfl | decide)
      | exact Solves.nil le_rfl
  · rintro W ⟨h0, h1, h2, -⟩ r c
    refine (congrFun h2 _).trans ?_
    rw [h1, h0]
    pointwise

/-- The reference's first choice by a mask. -/
theorem where1 : Solves (fn_where.body (F := Ideal) (.of main_v20) (.of main_v22) (.of main_v23) main_call2) (rk main_v23 + 1) (rk main_v24 + 1)
    fun W => val W (.of main_v24 : TRef sig ⟨S10000x32, .f32⟩) = select (val W (.of main_v20 : TRef sig ⟨S10000x32, .i1⟩)) (val W (.of main_v22 : TRef sig ⟨S10000x32, .f32⟩) : S10000x32.Idx → EReal) (val W (.of main_v23 : TRef sig ⟨S10000x32, .f32⟩) : S10000x32.Idx → EReal) := by
  apply Solves.imp
  · unfold fn_where.body
    repeat' first
      | (with_reducible apply Solves.bind)
      | (with_reducible apply Solves.tternary <;> first | exact le_rfl | decide)
      | exact Solves.nil le_rfl
  · rintro W ⟨h0, -⟩
    exact h0

/-- The reference's second choice by a mask. -/
theorem where2 : Solves (fn_where_3.body (F := Ideal) (.of main_v30) (.of main_v32) (.of main_v33) main_call4) (rk main_v33 + 1) (rk main_v34 + 1)
    fun W => val W (.of main_v34 : TRef sig ⟨S10000x18, .f32⟩) = select (val W (.of main_v30 : TRef sig ⟨S10000x18, .i1⟩)) (val W (.of main_v32 : TRef sig ⟨S10000x18, .f32⟩) : S10000x18.Idx → EReal) (val W (.of main_v33 : TRef sig ⟨S10000x18, .f32⟩) : S10000x18.Idx → EReal) := by
  apply Solves.imp
  · unfold fn_where_3.body
    repeat' first
      | (with_reducible apply Solves.bind)
      | (with_reducible apply Solves.tternary <;> first | exact le_rfl | decide)
      | exact Solves.nil le_rfl
  · rintro W ⟨h0, -⟩
    exact h0

/-- The reference's log-softmax of each row. -/
theorem softmax : Solves (fn_log_softmax.body (F := Ideal) (.of main_v39) main_call5) (rk main_v39 + 1) (rk main_v40 + 1)
    fun W => ∀ (r : Fin 10000) (c : Fin 6), val W (.of main_v40 : TRef sig ⟨S10000x6, .f32⟩) (ix2 r c) = logSoftmax (mat (val W (.of main_v39 : TRef sig ⟨S10000x6, .f32⟩))) r c := by
  apply Solves.imp
  · unfold fn_log_softmax.body
    repeat' first
      | (with_reducible apply Solves.bind)
      | (with_reducible apply Solves.tbinary <;> first | exact le_rfl | decide)
      | (with_reducible apply Solves.tunary <;> first | exact le_rfl | decide)
      | (with_reducible apply Solves.tnullary <;> first | exact le_rfl | decide)
      | exact Solves.nil le_rfl
  · rintro W ⟨h0, h1, h2, h3, h4, h5, h6, h7, h8, h9, h10, h11, h12, h13, h14, -⟩ r c
    refine (congrFun h14 _).trans ?_
    rw [h13, h12, h11, h10, h9, h8, h7, h6, h5, h4, h3, h2, h1, h0]
    pointwise
    exact (show _ = (logSoftmax (mat (val W (.of main_v39 : TRef sig ⟨S10000x6, .f32⟩))) r c) by
      rw [logSoftmax, ← max_top]; rfl)

/-- A choice by a mask that is set exactly where a condition holds. -/
theorem select_eq_if {s : Shape} (m : (⟨s, .i1⟩ : BufTy).Contents (Elt Ideal)) (x y : s.Idx → EReal) (i : s.Idx) (p : Prop) [Decidable p] (h : m i = BitVec.ofBool (decide p)) :
    select m x y i = if p then x i else y i := by
  pointwise
  rw [h]
  by_cases hp : p <;> simp [hp, Scalar.select]

/-- The whole reference: its result, as the network of its arguments. -/
theorem main_solves (d : Dev nD) : Solves (main (F := Ideal) d) 8 (rk main_v40 + 1) fun W => ∀ (r : Fin 10000) (c : Fin 6),
    val W (.of main_v40 : TRef sig ⟨S10000x6, .f32⟩) (ix2 r c)
      = net (mat (val W (.of main_arg0 : TRef sig ⟨S10000x3703, .f32⟩))) (mat (val W (.of main_arg1 : TRef sig ⟨S10000x10000, .f32⟩)))
        (mat (val W (.of main_arg2 : TRef sig ⟨S3703x32, .f32⟩))) (fun c => val W (.of main_arg3 : TRef sig ⟨S32, .f32⟩) (ix1 c))
        (mat (val W (.of main_arg4 : TRef sig ⟨S32x18, .f32⟩))) (fun c => val W (.of main_arg5 : TRef sig ⟨S18, .f32⟩) (ix1 c))
        (mat (val W (.of main_arg6 : TRef sig ⟨S18x6, .f32⟩))) (fun c => val W (.of main_arg7 : TRef sig ⟨S6, .f32⟩) (ix1 c)) r c := by
  apply Solves.imp
  · unfold main
    repeat' first
      | (with_reducible apply relu)
      | (with_reducible apply where1)
      | (with_reducible apply where2)
      | (with_reducible apply softmax)
      | (with_reducible apply mask1)
      | (with_reducible apply mask2)
      | (with_reducible apply Solves.bind)
      | (with_reducible apply Solves.binary <;> first | exact le_rfl | decide)
      | (with_reducible apply Solves.unary <;> first | exact le_rfl | decide)
      | (with_reducible apply Solves.nullary <;> first | exact le_rfl | decide)
      | exact Solves.nil le_rfl
  · rintro W ⟨hc, hc0, h0, h1, h2, hc1, h3, h4, h5, h6, hc2, hc3, h7, h8, h9, hc4, h10, h11, h12, h13, h14, h15, h16, h17, h18, hrelu, hcst, hm1,
      hcst5, h21, h22, hcst6, h23, hw1, h25, h26, h27, h28, h29, hcst7, hm2, hcst8, h31, h32, hcst9, h33, hw2, h35, h36, h37, h38, h39, hsm, -⟩
    have k10 : val W key1 (ix1 0) = 0#32 := by
      refine (congrFun h6 _).trans ?_
      rw [h2, h5, h1, h4, h0, h3, hc, hc0, hc1]; pointwise
      decide
    have k11 : val W key1 (ix1 1) = 101#32 := by
      refine (congrFun h6 _).trans ?_
      rw [h2, h5, h1, h4, h0, h3, hc, hc0, hc1]; pointwise
      decide
    have k20 : val W key2 (ix1 0) = 0#32 := by
      refine (congrFun h13 _).trans ?_
      rw [h9, h12, h8, h11, h7, h10, hc2, hc3, hc4]; pointwise
      decide
    have k21 : val W key2 (ix1 1) = 202#32 := by
      refine (congrFun h13 _).trans ?_
      rw [h9, h12, h8, h11, h7, h10, hc2, hc3, hc4]; pointwise
      decide
    have e18 : ∀ (r : Fin 10000) (c : Fin 32), val W (.of main_v18 : TRef sig ⟨S10000x32, .f32⟩) (ix2 r c)
        = mm (mat (val W (.of main_arg1 : TRef sig ⟨S10000x10000, .f32⟩))) (mm (mat (val W (.of main_arg0 : TRef sig ⟨S10000x3703, .f32⟩))) (mat (val W (.of main_arg2 : TRef sig ⟨S3703x32, .f32⟩)))) r c
          + val W (.of main_arg3 : TRef sig ⟨S32, .f32⟩) (ix1 c) := by
      intro r c
      refine (congrFun h18 _).trans ?_
      rw [h17, h16, h15, h14]; pointwise; rfl
    have e24 : ∀ (r : Fin 10000) (c : Fin 32), val W (.of main_v24 : TRef sig ⟨S10000x32, .f32⟩) (ix2 r c)
        = layer1 (mat (val W (.of main_arg0 : TRef sig ⟨S10000x3703, .f32⟩))) (mat (val W (.of main_arg1 : TRef sig ⟨S10000x10000, .f32⟩)))
          (mat (val W (.of main_arg2 : TRef sig ⟨S3703x32, .f32⟩))) (fun c => val W (.of main_arg3 : TRef sig ⟨S32, .f32⟩) (ix1 c)) r c := by
      intro r c
      have m := hm1 (congrFun hcst _) r c
      rw [k10, k11] at m
      rw [hw1]
      refine (select_eq_if _ _ _ _ _ m).trans ?_
      rw [layer1, drop]
      congr 1
      · refine (congrFun h22 _).trans ?_
        rw [h21, hcst5]; pointwise
        rw [← e18, ← hrelu]; rfl
      · refine (congrFun h23 _).trans ?_
        rw [hcst6]; pointwise
    have e29 : ∀ (r : Fin 10000) (c : Fin 18), val W (.of main_v29 : TRef sig ⟨S10000x18, .f32⟩) (ix2 r c)
        = layer (mat (val W (.of main_arg1 : TRef sig ⟨S10000x10000, .f32⟩))) (mat (val W (.of main_v24 : TRef sig ⟨S10000x32, .f32⟩)))
          (mat (val W (.of main_arg4 : TRef sig ⟨S32x18, .f32⟩))) (fun c => val W (.of main_arg5 : TRef sig ⟨S18, .f32⟩) (ix1 c)) r c := by
      intro r c
      refine (congrFun h29 _).trans ?_
      rw [h28, h27, h26, h25]; pointwise; rfl
    have e34 : ∀ (r : Fin 10000) (c : Fin 18), val W (.of main_v34 : TRef sig ⟨S10000x18, .f32⟩) (ix2 r c)
        = drop 202#32 (mat (val W (.of main_v29 : TRef sig ⟨S10000x18, .f32⟩))) r c := by
      intro r c
      have m := hm2 (congrFun hcst7 _) r c
      rw [k20, k21] at m
      rw [hw2]
      refine (select_eq_if _ _ _ _ _ m).trans ?_
      rw [drop]
      congr 1
      · refine (congrFun h32 _).trans ?_
        rw [h31, hcst8]; pointwise; rfl
      · refine (congrFun h33 _).trans ?_
        rw [hcst9]; pointwise
    have e39 : ∀ (r : Fin 10000) (c : Fin 6), val W (.of main_v39 : TRef sig ⟨S10000x6, .f32⟩) (ix2 r c)
        = layer (mat (val W (.of main_arg1 : TRef sig ⟨S10000x10000, .f32⟩))) (mat (val W (.of main_v34 : TRef sig ⟨S10000x18, .f32⟩)))
          (mat (val W (.of main_arg6 : TRef sig ⟨S18x6, .f32⟩))) (fun c => val W (.of main_arg7 : TRef sig ⟨S6, .f32⟩) (ix1 c)) r c := by
      intro r c
      refine (congrFun h39 _).trans ?_
      rw [h38, h37, h36, h35]; pointwise; rfl
    intro r c
    rw [hsm, net, show mat (val W (.of main_v39 : TRef sig ⟨S10000x6, .f32⟩)) = _ from funext₂ e39,
      show mat (val W (.of main_v34 : TRef sig ⟨S10000x18, .f32⟩)) = _ from funext₂ e34, show mat (val W (.of main_v29 : TRef sig ⟨S10000x18, .f32⟩)) = _ from funext₂ e29,
      show mat (val W (.of main_v24 : TRef sig ⟨S10000x32, .f32⟩)) = _ from funext₂ e24]

/-- The reference's run: on every device its result is the network of its arguments, its arguments are as they were. -/
theorem run_main (m : (ℓ : Loc nD τ sig) → Buf (Elt Ideal) ℓ) (g : Dev nD → PrngReg) :
    θ_run (defs (F := Ideal)) (onTc (τ := τ) (main (F := Ideal))) ⟨m, fun _ => 0, g⟩ fun r => ∀ d : Dev nD,
      (∀ (i : Fin 10000) (c : Fin 6), (r.2.mem ((d.tc : Thread nD τ).loc main_v40) : S10000x6.Idx → EReal) (ix2 i c)
        = net (mat (m ((d.tc : Thread nD τ).loc main_arg0) : S10000x3703.Idx → EReal)) (mat (m ((d.tc : Thread nD τ).loc main_arg1) : S10000x10000.Idx → EReal))
          (mat (m ((d.tc : Thread nD τ).loc main_arg2) : S3703x32.Idx → EReal)) (fun c => (m ((d.tc : Thread nD τ).loc main_arg3) : S32.Idx → EReal) (ix1 c))
          (mat (m ((d.tc : Thread nD τ).loc main_arg4) : S32x18.Idx → EReal)) (fun c => (m ((d.tc : Thread nD τ).loc main_arg5) : S18.Idx → EReal) (ix1 c))
          (mat (m ((d.tc : Thread nD τ).loc main_arg6) : S18x6.Idx → EReal)) (fun c => (m ((d.tc : Thread nD τ).loc main_arg7) : S6.Idx → EReal) (ix1 c)) i c)
      ∧ ∀ b : Ref sig .tc, rk b < 8 → r.2.mem ((d.tc : Thread nD τ).loc b) = m ((d.tc : Thread nD τ).loc b) := by
  refine (θ_run _ _ _).mono ?_ (Solves.run defs main_solves (by decide) (by decide) m g)
  intro r h d
  obtain ⟨W, hE, hW, hm⟩ := h d
  refine ⟨fun i c => ?_, fun b hb => (hW b).trans (hm b hb)⟩
  have e := hE i c
  simp only [← hm main_arg0 (by decide), ← hm main_arg1 (by decide), ← hm main_arg2 (by decide), ← hm main_arg3 (by decide), ← hm main_arg4 (by decide),
    ← hm main_arg5 (by decide), ← hm main_arg6 (by decide), ← hm main_arg7 (by decide), hW main_v40]
  exact e

/-- The reference terminates, leaves its arguments as they were and its semaphores at zero. -/
theorem frame : Cert.quiescent_ReferenceIdeal := by
  intro m g _
  exact (θ_run _ _ _).mono (fun r h => ⟨fun c => ⟨(h c).2 _ (by decide), (h c).2 _ (by decide), (h c).2 _ (by decide), (h c).2 _ (by decide),
    (h c).2 _ (by decide), (h c).2 _ (by decide), (h c).2 _ (by decide), (h c).2 _ (by decide)⟩, Idealize.ShloMosaic.sem_eq_zero_of_no_sems (by decide) r.2⟩) (run_main m g)

end Cert.ReferenceIdeal.Lines
-- ==== Proof.Elements.lean ====
/-
  The regions' arrays element by element: what an element of a result is, and what a fetched block holds.
-/
module

public import proofs.«01_k».proof.Proof.Run
public import proofs.«01_k».proof.Proof.Spec
public import Idealize.ShloMosaic.Lib.Pipeline.ValueKit

@[expose] public section

noncomputable section

namespace Cert.KernelIdeal.Run

open Cert.KernelIdeal Cert.KernelIdeal.Gen

open Idealize.ShloMosaic
open Idealize.ShloMosaic.Pipeline (Dat RDat Cfg Window)

variable {F : FTy → Type} [FloatOps F]

/-- The place in the array of an index of point `t`'s block. -/
def At {G : Pipeline.Grid} (w : Window sig G) (t : Fin G.N) (j : w.block.Idx) (i : w.shape.Idx) : Prop := ∀ a, (i a : ℕ) = w.index t a * w.size a + j a

/-- The window goes down its array block by block. -/
def Steps {G : Pipeline.Grid} (w : Window sig G) : Prop := ∀ t a, w.index t a = if a.val = 0 then t.val else 0

instance {G : Pipeline.Grid} (w : Window sig G) : Decidable (Steps w) := inferInstanceAs (Decidable (∀ _ _, _))

/-- The window stays at its array's first block. -/
def Stays {G : Pipeline.Grid} (w : Window sig G) : Prop := ∀ t a, w.index t a = 0

instance {G : Pipeline.Grid} (w : Window sig G) : Decidable (Stays w) := inferInstanceAs (Decidable (∀ _ _, _))

/-- Where a window that goes down block by block places an index. -/
theorem Steps.at_iff {G : Pipeline.Grid} {w : Window sig G} (h : Steps w) {t : Fin G.N} {j : w.block.Idx} {i : w.shape.Idx} :
    At w t j i ↔ ∀ a, (i a : ℕ) = (if a.val = 0 then t.val else 0) * w.size a + j a :=
  forall_congr' fun a => by rw [h t a]

/-- Where a window that stays places an index: at the same coordinates. -/
theorem Stays.at {G : Pipeline.Grid} {w : Window sig G} (h : Stays w) {t : Fin G.N} {j : w.block.Idx} {i : w.shape.Idx} (e : ∀ a, (i a : ℕ) = j a) : At w t j i :=
  fun a => by rw [h t a, Nat.zero_mul, Nat.zero_add]; exact e a

/-- No transfer of the window moves less of a block than lies inside the array. -/
def Fits {G : Pipeline.Grid} (w : Window sig G) : Prop :=
  ∀ t a, w.xsize (G.coords t) a = w.size a ∨ w.shape.size a ≤ w.index t a * w.size a + w.xsize (G.coords t) a

instance {G : Pipeline.Grid} (w : Window sig G) : Decidable (Fits w) := inferInstanceAs (Decidable (∀ _ _, _))

/-- A fetched block holds, at an index inside the array, the array's element there. -/
theorem fetched_at {cfg : Cfg sig Λ₀} (c : Dev nD) (V : Valuation τ sig (Elt F)) (w : Fin cfg.W) (hw : Fits (cfg.win w)) (hk : (cfg.win w).kind = .blocked) (t : Fin cfg.N)
    (d : (cfg.win w).block.Idx → Elt F (cfg.win w).elt) {j : (cfg.win w).block.Idx} {i : (cfg.win w).shape.Idx} (h : At (cfg.win w) t j i) :
    (dat cfg c V).fetched w t d j = (cfg.win w).arr.view.read (Elt F) (V (Proc.devRef .tc (Pipeline.arrRef cfg.spec w))) i := by
  have hj : ∀ a, (j a : ℕ) < (cfg.win w).xsize (cfg.grid.coords t) a := fun a => by
    have h1 := h a
    have h2 := (i a).isLt
    have h3 : (j a : ℕ) < (cfg.win w).size a := (j a).isLt
    rcases hw t a with e | e
    · omega
    · omega
  refine (congrFun ((cfg.win w).cut_fill (cfg.grid.coords t) d _) fun a => ⟨j a, hj a⟩).trans ?_
  have e : ((cfg.win w).rect t).emb (fun a => ⟨j a, hj a⟩ : ((cfg.win w).xblock (cfg.grid.coords t)).Idx) = i :=
    funext fun a => Fin.ext (((cfg.win w).rect_emb_val _ _ a hk).trans (h a).symm)
  show (cfg.win w).arr.view.read (Elt F) _ (((cfg.win w).rect t).emb _) = _
  rw [e]; rfl

/-- Each element of a result is, in some point's block where the block places it, what the body may leave there. -/
theorem Ends.element {p : Fin 4} {c : Dev nD} {V V' : Valuation τ sig (Elt F)} (h : Ends p c V V') (w : Fin (cfgs p).W)
    (hout : ((cfgs p).win w).isOut = true) (hcov : ((cfgs p).win w).Covers) (harr : ((cfgs p).win w).arr.IsWhole) (hk : ((cfgs p).win w).kind = .blocked)
    (i : ((cfgs p).win w).shape.Idx) :
    ∃ t X j, Rl c V p w t X ∧ At ((cfgs p).win w) t j i ∧ ((cfgs p).win w).arr.view.read (Elt F) (V' (Proc.devRef .tc (Pipeline.arrRef (cfgs p).spec w))) i = X j := by
  obtain ⟨-, after, hL, hA⟩ := h
  rw [hA w]
  have e := Dat.arrAt_forall_of_covers ((rdats V p c).withAfter after) w (fun i' v => ∃ t X j i, Rl c V p w t X ∧ At ((cfgs p).win w) t j i
      ∧ ((cfgs p).win w).arr.view.emb i = i' ∧ v = _root_.cast (congrArg (Elt F) ((cfgs p).win w).arr.view.elt_eq.symm) (X j)) hcov
    (fun t hf y => ⟨t, _, _, ((cfgs p).win w).rect t |>.emb y, Dat.toRRel_leaves _ hout (hL w t hf), fun a => ((cfgs p).win w).rect_emb_val _ _ a hk, rfl, rfl⟩)
    (((cfgs p).win w).arr.view.emb i) harr
  obtain ⟨t, X, j, i₀, hX, hat, hi, hv⟩ := e
  have hi : i₀ = i := ((cfgs p).win w).arr.view.emb.injective hi
  subst hi
  refine ⟨t, X, j, hX, hat, ?_⟩
  rw [View.read_apply, hv]
  exact cast_cast _ _ _

end Cert.KernelIdeal.Run

end
-- ==== Proof.Masks.lean ====
/-
  The second kernel's two dropout masks, element by element: the arrays of words it computes hold the hash.
-/
module

public import proofs.«01_k».proof.Proof.Body
public import proofs.«01_k».proof.Proof.Spec

@[expose] public section

noncomputable section

namespace Cert.KernelIdeal.Run

open Cert.KernelIdeal Cert.KernelIdeal.Gen Cert.Spec Cert.Threefry

open Idealize.ShloMosaic

/-- A turned word met with another, as the kernel spells it on arrays. -/
theorem turn {s : Shape} {x z : IVec s 32} {a b : BitVec 32} (ha : a.toNat < 32) (hb : b.toNat < 32) (j : s.Idx) :
    xori z (andi (ori (shli x (broadcast s a)) (shrui x (broadcast s b))) (broadcast s 4294967295#32)) j = z j ^^^ rot a b (x j) := by
  show z j ^^^ ((IntOp.shli .vector (x j) a ||| IntOp.shrui .vector (x j) b) &&& BitVec.allOnes 32) = _
  rw [vector_shli _ _ ha, vector_shrui _ _ hb, BitVec.and_allOnes]; rfl

/-- The first mask's first group of rounds, from the places. -/
theorem group11 {K : BitVec 32} (i : grid1.Coords) (j : S512x32.Idx) :
    (k1_pay13 (k1_pay7 i) (k1_pay8 i) (k1_pay9 i) j + 101#32, k1_pay14 K (k1_pay7 i) (k1_pay8 i) (k1_pay9 i) j) = groupA 101#32 K 1#32 (0#32 + 0#32, k1_pay4 i j) :=
  groupA_of (s := k1_pay5 i j) (y := k1_pay6 i j) (s' := k1_pay7 i j) (y' := k1_pay10 (k1_pay7 i) (k1_pay8 i) (k1_pay9 i) j) (s'' := k1_pay11 (k1_pay7 i) (k1_pay8 i) (k1_pay9 i) j) (y'' := k1_pay12 (k1_pay7 i) (k1_pay8 i) (k1_pay9 i) j) (s''' := k1_pay13 (k1_pay7 i) (k1_pay8 i) (k1_pay9 i) j)
    rfl (turn (by decide) (by decide) j) rfl (turn (by decide) (by decide) j) rfl (turn (by decide) (by decide) j) rfl
    (turn (z := k1_pay13 (k1_pay7 i) (k1_pay8 i) (k1_pay9 i)) (x := k1_pay12 (k1_pay7 i) (k1_pay8 i) (k1_pay9 i)) (by decide) (by decide) j) rfl rfl

/-- The first mask's second group. -/
theorem group12 {K : BitVec 32} {a b c : IVec S512x32 32} (j : S512x32.Idx) :
    (k1_pay22 (k1_pay17 K a b c) (k1_pay18 K a b c) j + K, k1_pay23 (k1_pay17 K a b c) (k1_pay18 K a b c) j) = groupB K 0#32 2#32 (k1_pay13 a b c j + 101#32, k1_pay14 K a b c j) :=
  groupB_of (s := k1_pay15 K a b c j) (y := k1_pay16 K a b c j) (s' := k1_pay17 K a b c j) (y' := k1_pay19 (k1_pay17 K a b c) (k1_pay18 K a b c) j) (s'' := k1_pay20 (k1_pay17 K a b c) (k1_pay18 K a b c) j) (y'' := k1_pay21 (k1_pay17 K a b c) (k1_pay18 K a b c) j) (s''' := k1_pay22 (k1_pay17 K a b c) (k1_pay18 K a b c) j)
    rfl (turn (by decide) (by decide) j) rfl (turn (by decide) (by decide) j) rfl (turn (by decide) (by decide) j) rfl
    (turn (z := k1_pay22 (k1_pay17 K a b c) (k1_pay18 K a b c)) (x := k1_pay21 (k1_pay17 K a b c) (k1_pay18 K a b c)) (by decide) (by decide) j) rfl rfl

/-- The first mask's third group. -/
theorem group13 {K : BitVec 32} {a b : IVec S512x32 32} (j : S512x32.Idx) :
    (k1_pay31 (k1_pay27 K a b) (k1_pay28 K a b) k1_pay29 j + 0#32, k1_pay32 (k1_pay27 K a b) (k1_pay28 K a b) k1_pay29 j) = groupA 0#32 101#32 3#32 (k1_pay22 a b j + K, k1_pay23 a b j) :=
  groupA_of (s := k1_pay24 K a b j) (y := k1_pay25 K a b j) (s' := k1_pay26 K a b j) (y' := k1_pay27 K a b j) (s'' := k1_pay28 K a b j) (y'' := k1_pay30 (k1_pay27 K a b) (k1_pay28 K a b) k1_pay29 j) (s''' := k1_pay31 (k1_pay27 K a b) (k1_pay28 K a b) k1_pay29 j)
    rfl (turn (by decide) (by decide) j) rfl (turn (by decide) (by decide) j) rfl (turn (by decide) (by decide) j) rfl
    (turn (z := k1_pay31 (k1_pay27 K a b) (k1_pay28 K a b) k1_pay29) (x := k1_pay30 (k1_pay27 K a b) (k1_pay28 K a b) k1_pay29) (by decide) (by decide) j) rfl rfl

/-- The first mask's fourth group. -/
theorem group14 {K : BitVec 32} {a b c : IVec S512x32 32} (j : S512x32.Idx) :
    (k1_pay41 (k1_pay36 a b c) (k1_pay37 a b c) (k1_pay38 a b c) k1_pay39 j + 101#32, k1_pay42 K (k1_pay36 a b c) (k1_pay37 a b c) (k1_pay38 a b c) k1_pay39 j) = groupB 101#32 K 4#32 (k1_pay31 a b c j + 0#32, k1_pay32 a b c j) :=
  groupB_of (s := k1_pay33 a b c j) (y := k1_pay34 a b c j) (s' := k1_pay35 a b c j) (y' := k1_pay36 a b c j) (s'' := k1_pay37 a b c j) (y'' := k1_pay40 (k1_pay36 a b c) (k1_pay37 a b c) (k1_pay38 a b c) k1_pay39 j) (s''' := k1_pay41 (k1_pay36 a b c) (k1_pay37 a b c) (k1_pay38 a b c) k1_pay39 j)
    rfl (turn (by decide) (by decide) j) rfl (turn (by decide) (by decide) j) rfl (turn (by decide) (by decide) j) rfl
    (turn (z := k1_pay41 (k1_pay36 a b c) (k1_pay37 a b c) (k1_pay38 a b c) k1_pay39) (x := k1_pay40 (k1_pay36 a b c) (k1_pay37 a b c) (k1_pay38 a b c) k1_pay39) (by decide) (by decide) j) rfl rfl

/-- The first mask's words after the last group's third turn. -/
def meet1 (K : BitVec 32) (a b c d : IVec S512x32 32) : IVec S512x32 32 :=
  xori (k1_pay47 K a b c d) (andi (k1_pay48 K a b c d) k1_pay49)

/-- The first mask's last group. -/
theorem group15 {K : BitVec 32} {a b c d : IVec S512x32 32} (j : S512x32.Idx) :
    (addi (k1_pay47 K a b c d) (meet1 K a b c d) j + K, (addi (k1_pay47 K a b c d) (meet1 K a b c d) j ^^^ rot 6#32 26#32 (meet1 K a b c d j)) + 0#32 + 5#32) = groupA K 0#32 5#32 (k1_pay41 a b c d j + 101#32, k1_pay42 K a b c d j) :=
  groupA_of (s := k1_pay43 K a b c d j) (y := k1_pay44 K a b c d j) (s' := k1_pay45 K a b c d j) (y' := k1_pay46 K a b c d j) (s'' := k1_pay47 K a b c d j) (y'' := meet1 K a b c d j) (s''' := addi (k1_pay47 K a b c d) (meet1 K a b c d) j)
    rfl (turn (by decide) (by decide) j) rfl (turn (by decide) (by decide) j) rfl (turn (x := k1_pay46 K a b c d) (z := k1_pay47 K a b c d) (by decide) (by decide) j) rfl
    rfl rfl rfl

/-- The first key word is the third word of the key. -/
theorem keyWord_eq (k : BitVec 32) : keyWord k = third 0#32 k := rfl

/-- The first mask's words, as the last stage of the second kernel computes them. -/
def last1 (K : BitVec 32) (a b c d : IVec S512x32 32) : IVec S512x32 32 := fun j =>
  (addi (k1_pay47 K a b c d) (meet1 K a b c d) j + K) ^^^ ((addi (k1_pay47 K a b c d) (meet1 K a b c d) j ^^^ rot 6#32 26#32 (meet1 K a b c d j)) + 0#32 + 5#32)

/-- The first mask's words are the hash of their places under the first key. -/
theorem last1_at (i : grid1.Coords) (j : S512x32.Idx) {K n} (hK : K = third 0#32 101#32) {a1 a2 b1 b2}
    (e1 : a1 = k1_pay17 K (k1_pay7 i) (k1_pay8 i) (k1_pay9 i)) (e2 : a2 = k1_pay18 K (k1_pay7 i) (k1_pay8 i) (k1_pay9 i))
    (e3 : b1 = k1_pay27 K a1 a2) (e4 : b2 = k1_pay28 K a1 a2) (h : k1_pay4 i j = n + 101#32) :
    last1 K (k1_pay36 b1 b2 k1_pay29) (k1_pay37 b1 b2 k1_pay29) (k1_pay38 b1 b2 k1_pay29) k1_pay39 j = word 101#32 n := by
  unfold word Threefry.hash
  rw [← hK]
  dsimp only
  rw [← h, ← group11, ← group12, ← e1, ← e2, ← group13, ← e3, ← e4, ← group14, ← group15]
  rfl

/-- The second mask's first group of rounds, from the places. -/
theorem group21 {K p : BitVec 32} {q : IVec S512x18 32} (j : S512x18.Idx) :
    (k1_pay58 p q j + 202#32, k1_pay60 K (k1_pay57 p q) (k1_pay58 p q) (k1_pay59 p q) j) = groupA 202#32 K 1#32 (0#32 + 0#32, k1_pay51 p q j) :=
  groupA_of (s := k1_pay52 p q j) (y := k1_pay53 p q j) (s' := k1_pay54 p q j) (y' := k1_pay55 p q j) (s'' := k1_pay56 p q j) (y'' := k1_pay57 p q j) (s''' := k1_pay58 p q j)
    rfl (turn (by decide) (by decide) j) rfl (turn (by decide) (by decide) j) rfl (turn (by decide) (by decide) j) rfl
    (turn (z := k1_pay58 p q) (x := k1_pay57 p q) (by decide) (by decide) j) rfl rfl

/-- The second mask's second group. -/
theorem group22 {K : BitVec 32} {a b c : IVec S512x18 32} (j : S512x18.Idx) :
    (k1_pay67 K a b c j + K, k1_pay69 (k1_pay67 K a b c) (k1_pay68 K a b c) j) = groupB K 0#32 2#32 (b j + 202#32, k1_pay60 K a b c j) :=
  groupB_of (s := k1_pay61 K a b c j) (y := k1_pay62 K a b c j) (s' := k1_pay63 K a b c j) (y' := k1_pay64 K a b c j) (s'' := k1_pay65 K a b c j) (y'' := k1_pay66 K a b c j) (s''' := k1_pay67 K a b c j)
    rfl (turn (by decide) (by decide) j) rfl (turn (by decide) (by decide) j) rfl (turn (by decide) (by decide) j) rfl
    (turn (z := k1_pay67 K a b c) (x := k1_pay66 K a b c) (by decide) (by decide) j) rfl rfl

/-- The second mask's third group. -/
theorem group23 {K : BitVec 32} {a b : IVec S512x18 32} (j : S512x18.Idx) :
    (k1_pay76 K a b j + 0#32, k1_pay78 (k1_pay77 K a b) j) = groupA 0#32 202#32 3#32 (a j + K, k1_pay69 a b j) :=
  groupA_of (s := k1_pay70 K a b j) (y := k1_pay71 K a b j) (s' := k1_pay72 K a b j) (y' := k1_pay73 K a b j) (s'' := k1_pay74 K a b j) (y'' := k1_pay75 K a b j) (s''' := k1_pay76 K a b j) (y''' := k1_pay77 K a b j)
    rfl (turn (by decide) (by decide) j) rfl (turn (by decide) (by decide) j) rfl (turn (by decide) (by decide) j) rfl
    (turn (by decide) (by decide) j) rfl rfl

/-- The second mask's fourth group. -/
theorem group24 {K : BitVec 32} {a b : IVec S512x18 32} (j : S512x18.Idx) :
    (k1_pay87 a b j, k1_pay88 K (k1_pay86 a b) j) = groupB 202#32 K 4#32 (a j + 0#32, k1_pay78 b j) :=
  groupB_of (s := k1_pay79 a b j) (y := k1_pay80 a b j) (s' := k1_pay81 a b j) (y' := k1_pay82 a b j) (s'' := k1_pay83 a b j) (y'' := k1_pay84 a b j) (s''' := k1_pay85 a b j) (y''' := k1_pay86 a b j)
    rfl (turn (by decide) (by decide) j) rfl (turn (by decide) (by decide) j) rfl (turn (by decide) (by decide) j) rfl
    (turn (by decide) (by decide) j) rfl rfl

/-- The second mask's last group. -/
theorem group25 {K : BitVec 32} {a b : IVec S512x18 32} (j : S512x18.Idx) :
    (k1_pay96 K a b j, addi (k1_pay97 K a b) k1_pay98 j) = groupA K 0#32 5#32 (b j, k1_pay88 K a j) :=
  groupA_of (s := k1_pay89 K a b j) (y := k1_pay90 K a b j) (s' := k1_pay91 K a b j) (y' := k1_pay92 K a b j) (s'' := k1_pay93 K a b j) (y'' := k1_pay94 K a b j) (s''' := k1_pay95 K a b j)
    rfl (turn (by decide) (by decide) j) rfl (turn (by decide) (by decide) j) rfl (turn (by decide) (by decide) j) rfl
    (turn (z := k1_pay95 K a b) (x := k1_pay94 K a b) (by decide) (by decide) j) rfl rfl

/-- The second mask's words are the hash of their places under the second key. -/
theorem last2_at (j : S512x18.Idx) {K p n} {q a1 a2 b1 b2 : IVec S512x18 32} (hK : K = third 0#32 202#32)
    (e1 : a1 = k1_pay67 K (k1_pay57 p q) (k1_pay58 p q) (k1_pay59 p q)) (e2 : a2 = k1_pay68 K (k1_pay57 p q) (k1_pay58 p q) (k1_pay59 p q))
    (e3 : b1 = k1_pay76 K a1 a2) (e4 : b2 = k1_pay77 K a1 a2) (h : k1_pay51 p q j = n + 202#32) :
    xori (k1_pay96 K (k1_pay86 b1 b2) (k1_pay87 b1 b2)) (addi (k1_pay97 K (k1_pay86 b1 b2) (k1_pay87 b1 b2)) k1_pay98) j = word 202#32 n := by
  unfold word Threefry.hash
  rw [← hK]
  dsimp only
  rw [← h, ← group21, ← group22, ← e1, ← e2, ← group23, ← e3, ← e4, ← group24, ← group25]
  rfl

/-- A place counted by block, row of the block and column. -/
theorem place {k r t ρ q : ℕ} (h : r = t * 512 + ρ) :
    BitVec.ofNat 32 t * BitVec.ofNat 32 (512 * k) + BitVec.ofNat 32 ρ * BitVec.ofNat 32 k + BitVec.ofNat 32 q = BitVec.ofNat 32 (k * r + q) := by
  simp only [← BitVec.ofNat_mul, ← BitVec.ofNat_add, h]
  congr 1; ring

/-- The first mask's places. -/
theorem place1 (i : grid1.Coords) {r : ℕ} (ρ : Fin 512) (q : Fin 32) (h : r = (i 0).val * 512 + ρ) :
    k1_pay4 i (ix2 ρ q) = BitVec.ofNat 32 (32 * r + q) + 101#32 := by
  unfold_payloads
  pointwise
  exact congrArg (· + 101#32) (place (k := 32) h)

/-- The second mask's places. -/
theorem place2 (t : ℕ) {r : ℕ} (ρ : Fin 512) (q : Fin 18) (h : r = t * 512 + ρ) :
    k1_pay51 (Scalar.muli (BitVec.ofNat 32 t) 9216#32) (iota .tc S512x18 32 [0] iota_S512x18_d0_w32) (ix2 ρ q) = BitVec.ofNat 32 (18 * r + q) + 202#32 := by
  unfold_payloads
  pointwise
  exact congrArg (· + 202#32) (place (k := 18) h)

/-- A choice by whether a word is zero. -/
theorem choice {w : BitVec 32} {α : Type} (a b : α) : Scalar.select (IntOp.cmpi .eq w 0#32) a b = if w = 0#32 then a else b := by
  by_cases h : w = 0#32 <;> simp [h, Scalar.select, IntOp.cmpi, beq_false_of_ne]

/-- A product chosen by a word's top bit is the product with the factor chosen. -/
theorem chosen {w w' : BitVec 32} (h : w = w') (m x y : EReal) :
    (if w >>> 31#32 = 0#32 then m * x * y else 0) = m * (if w' >>> 31#32 = 0#32 then x else 0) * y := by
  subst h; split <;> simp

/-- A mask's element at a place: two where its word's top bit is clear, zero where it is set. -/
def mask {n : ℕ} (key : BitVec 32) (k : ℕ) (r : Fin n) (c : Fin k) : EReal := if Kept key k r c then Ideal.ofBits .f32 1073741824#32 else 0

/-- A word that is a place's hash chooses the mask's element there. -/
theorem masked {key w : BitVec 32} {n k : ℕ} {r : Fin n} {c : Fin k} (h : w = word key (BitVec.ofNat 32 (k * r + c))) :
    (if w >>> 31#32 = 0#32 then Ideal.ofBits .f32 1073741824#32 else 0) = mask key k r c := by
  subst h; rfl

/-- The second kernel's block of products, at an index, over the first mask's words. -/
theorem pay50 (A : FVec Ideal S512x32 .f32) (K : BitVec 32) (a b c d : IVec S512x32 32) (B : Vec Ideal S1x32 .f32) (W : Vec Ideal S32x18 .f32) (ρ : Fin 512) (q : Fin 18) :
    k1_pay50 A K (k1_pay47 K a b c d) (k1_pay48 K a b c d) k1_pay49 B W (ix2 ρ q)
      = (∑ k : Fin 32, max (A (ix2 ρ k) + B (ix2 0 k)) 0 * (if last1 K a b c d (ix2 ρ k) >>> 31#32 = 0#32 then Ideal.ofBits .f32 1073741824#32 else 0) * W (ix2 k q))
        * Ideal.ofBits .f32 1132462080#32 := by
  unfold k1_pay50
  pointwise
  refine congrArg (· * _) (Finset.sum_congr rfl fun k _ => ?_)
  rw [choice, vector_shrui _ _ (by decide)]
  have e := turn (z := addi (k1_pay47 K a b c d) (meet1 K a b c d)) (x := meet1 K a b c d) (a := 6#32) (b := 26#32) (by decide) (by decide) (ix2 ρ k)
  unfold last1
  rw [← e]
  exact chosen rfl _ _ _

/-- The second kernel's first product, at an index. -/
theorem pay3 (X1 : Vec Ideal S512x10000 .f32) (X2 : Vec Ideal S10000x32 .f32) (ρ : Fin 512) (q : Fin 32) :
    k1_pay3 X1 X2 (ix2 ρ q) = ∑ k : Fin 10000, X1 (ix2 ρ k) * X2 (ix2 k q) := by
  unfold_payloads
  pointwise

/-- What the second kernel stores as the scaled product, at an index. -/
theorem out5_at (i : grid1.Coords) (X1 : Vec Ideal S512x10000 .f32) (X2 : Vec Ideal S10000x32 .f32) (X3 : Vec Ideal S1x32 .f32) (X4 : Vec Ideal S32x18 .f32)
    {n : ℕ} {r : Fin n} {ρ : Fin 512} (h : r.val = (i 0).val * 512 + ρ) (q : Fin 18) :
    out5 i X1 X2 X3 X4 (ix2 ρ q)
      = (∑ k : Fin 32, max ((∑ l : Fin 10000, X1 (ix2 ρ l) * X2 (ix2 l k)) + X3 (ix2 0 k)) 0 * mask 101#32 32 r k * X4 (ix2 k q))
        * Ideal.ofBits .f32 1132462080#32 := by
  unfold out5
  rw [pay50]
  refine congrArg (fun z => z * Ideal.ofBits .f32 1132462080#32) (Finset.sum_congr rfl fun k _ => ?_)
  rw [pay3, masked (last1_at i (ix2 ρ k) (keyWord_eq 101#32) rfl rfl rfl rfl (place1 i ρ k h))]

/-- What the second kernel stores as the second mask, at an index. -/
theorem out7_at (i : grid1.Coords) {n : ℕ} {r : Fin n} {ρ : Fin 512} (h : r.val = (i 0).val * 512 + ρ) (q : Fin 18) :
    out7 (F := Ideal) i (ix2 ρ q) = mask 202#32 18 r q := by
  unfold out7 k1_pay1
  dsimp only
  pointwise
  rw [choice, vector_shrui _ _ (by decide)]
  exact masked (last2_at (ix2 ρ q) (keyWord_eq 202#32) rfl rfl rfl rfl (place2 (i 0).val ρ q h))

end Cert.KernelIdeal.Run

end
-- ==== Proof.Values.lean ====
/-
  What each kernel leaves in its results, element by element.
-/
module

public import proofs.«01_k».proof.Proof.Elements
public import proofs.«01_k».proof.Proof.Masks

@[expose] public section

noncomputable section

namespace Cert.KernelIdeal.Run

open Cert.KernelIdeal Cert.KernelIdeal.Gen Cert.Spec

open Idealize.ShloMosaic
open Idealize.ShloMosaic.Pipeline (Dat RDat Cfg Window)

variable (c : Dev nD) {V V' : Valuation τ sig (Elt Ideal)}

/-- No step along an axis. -/
theorem stay (n k : ℕ) : k = 0 * n + k := by simp

/-- The second kernel's points in order are its one coordinate's values. -/
theorem row1 : ∀ t : Fin cfg1.N, (grid1.coords t 0).val = t.val := by decide +kernel

/-- The first kernel's block, at an index. -/
theorem pay0 (X1 : Vec Ideal S1280x3703 .f32) (X2 : Vec Ideal S3703x32 .f32) (ρ : Fin 1280) (q : Fin 32) :
    k0_pay1 X1 X2 (ix2 ρ q) = ∑ k : Fin 3703, X1 (ix2 ρ k) * X2 (ix2 k q) := by
  unfold_payloads
  pointwise

/-- The first kernel leaves the product of the inputs and the first weights. -/
theorem value0 (h : Ends 0 c V V') (r : Fin 10000) (q : Fin 32) :
    (V' (Proc.devRef .tc main_v3) : S10000x32.Idx → EReal) (ix2 r q)
      = mm (mat (V (Proc.devRef .tc main_arg0) : S10000x3703.Idx → EReal)) (mat (V (Proc.devRef .tc main_arg2) : S3703x32.Idx → EReal)) r q := by
  obtain ⟨t, X, j, ⟨d0, d1, rfl⟩, hat, e⟩ := h.element 2 rfl (by decide +kernel) (Memref.isWhole_whole _) rfl (ix2 r q)
  refine e.trans ?_
  idx_vars j
  have hat := (Steps.at_iff (by decide +kernel)).mp hat
  obtain rfl : q = j1 := Fin.ext ((hat 1).trans (stay _ _).symm)
  refine (pay0 _ _ _ _).trans (Finset.sum_congr rfl fun k _ => congrArg₂ (· * ·) ?_ ?_)
  · exact fetched_at c V 0 (by decide +kernel) rfl t d0 (i := ix2 r k) ((Steps.at_iff (by decide +kernel)).mpr fun
      | ⟨0, _⟩ => hat 0
      | ⟨1, _⟩ => stay _ _)
  · exact fetched_at c V 1 (by decide +kernel) rfl t d1 (i := ix2 k q) (Stays.at (by decide +kernel) fun _ => rfl)

/-- The second kernel's block of the scaled matrix, at an index. -/
theorem pay2 (X1 : Vec Ideal S512x10000 .f32) (ρ : Fin 512) (q : Fin 10000) :
    k1_pay2 X1 (ix2 ρ q) = X1 (ix2 ρ q) * Ideal.ofBits .f32 1199570944#32 := by
  unfold_payloads
  pointwise

/-- The second kernel leaves the scaled matrix. -/
theorem value1b (h : Ends 1 c V V') (r : Fin 10000) (q : Fin 10000) :
    (V' (Proc.devRef .tc main_v4_1) : S10000x10000.Idx → EReal) (ix2 r q)
      = mat (V (Proc.devRef .tc main_arg1) : S10000x10000.Idx → EReal) r q * Ideal.ofBits .f32 1199570944#32 := by
  obtain ⟨t, X, j, ⟨d0, rfl⟩, hat, e⟩ := h.element 5 rfl (by decide +kernel) (Memref.isWhole_whole _) rfl (ix2 r q)
  refine e.trans ?_
  idx_vars j
  refine (pay2 _ _ _).trans (congrArg (fun z : EReal => z * Ideal.ofBits .f32 1199570944#32) ?_)
  exact fetched_at c V 0 (by decide +kernel) rfl t d0 (i := ix2 r q) ((Steps.at_iff (by decide +kernel)).mpr ((Steps.at_iff (by decide +kernel)).mp hat))

/-- The second kernel leaves the second mask. -/
theorem value1c (h : Ends 1 c V V') (r : Fin 10000) (q : Fin 18) :
    (V' (Proc.devRef .tc main_v4_2) : S10000x18.Idx → EReal) (ix2 r q) = mask 202#32 18 r q := by
  obtain ⟨t, X, j, rfl, hat, e⟩ := h.element 6 rfl (by decide +kernel) (Memref.isWhole_whole _) rfl (ix2 r q)
  refine e.trans ?_
  idx_vars j
  have hat := (Steps.at_iff (by decide +kernel)).mp hat
  obtain rfl : q = j1 := Fin.ext ((hat 1).trans (stay _ _).symm)
  exact out7_at (grid1.coords t) ((hat 0).trans (congrArg (· * 512 + j0.val) (row1 t).symm)) q

/-- The second kernel leaves the scaled product of the first layer after its mask and the second weights. -/
theorem value1a (h : Ends 1 c V V') (r : Fin 10000) (q : Fin 18) :
    (V' (Proc.devRef .tc main_v4_0) : S10000x18.Idx → EReal) (ix2 r q)
      = (∑ k : Fin 32, max (mm (mat (V (Proc.devRef .tc main_arg1) : S10000x10000.Idx → EReal)) (mat (V (Proc.devRef .tc main_v3) : S10000x32.Idx → EReal)) r k
            + (V (Proc.devRef .tc main_v0) : S1x32.Idx → EReal) (ix2 0 k)) 0 * mask 101#32 32 r k * (V (Proc.devRef .tc main_arg4) : S32x18.Idx → EReal) (ix2 k q))
          * Ideal.ofBits .f32 1132462080#32 := by
  obtain ⟨t, X, j, ⟨d0, d1, d2, d3, rfl⟩, hat, e⟩ := h.element 4 rfl (by decide +kernel) (Memref.isWhole_whole _) rfl (ix2 r q)
  refine e.trans ?_
  idx_vars j
  have hat := (Steps.at_iff (by decide +kernel)).mp hat
  obtain rfl : q = j1 := Fin.ext ((hat 1).trans (stay _ _).symm)
  refine (out5_at (grid1.coords t) _ _ _ _ ((hat 0).trans (congrArg (· * 512 + j0.val) (row1 t).symm)) q).trans
    (congrArg (fun z : EReal => z * Ideal.ofBits .f32 1132462080#32) (Finset.sum_congr rfl fun k _ =>
      congrArg₂ (fun y z : EReal => max y 0 * mask 101#32 32 r k * z) (congrArg₂ (· + ·) (Finset.sum_congr rfl fun l _ => congrArg₂ (· * ·) ?_ ?_) ?_) ?_))
  · exact fetched_at c V 0 (by decide +kernel) rfl t d0 (i := ix2 r l) ((Steps.at_iff (by decide +kernel)).mpr fun
      | ⟨0, _⟩ => hat 0
      | ⟨1, _⟩ => stay _ _)
  · exact fetched_at c V 1 (by decide +kernel) rfl t d1 (i := ix2 l k) (Stays.at (by decide +kernel) fun _ => rfl)
  · exact fetched_at c V 2 (by decide +kernel) rfl t d2 (i := ix2 0 k) (Stays.at (by decide +kernel) fun _ => rfl)
  · exact fetched_at c V 3 (by decide +kernel) rfl t d3 (i := ix2 k q) (Stays.at (by decide +kernel) fun _ => rfl)

/-- The third kernel's block, at an index. -/
theorem pay4 (X1 : Vec Ideal S1024x10000 .fp8e4m3) (X2 : Vec Ideal S10000x18 .fp8e4m3) (X3 : Vec Ideal S1x18 .f32) (X4 : Vec Ideal S1024x18 .f32)
    (X5 : Vec Ideal S18x6 .f32) (ρ : Fin 1024) (q : Fin 6) :
    k2_pay1 X1 X2 X3 X4 X5 (ix2 ρ q)
      = (∑ k : Fin 18, ((∑ l : Fin 10000, X1 (ix2 ρ l) * X2 (ix2 l k)) * Ideal.ofBits .f32 864026624#32 + X3 (ix2 0 k)) * X4 (ix2 ρ k) * X5 (ix2 k q))
        * Ideal.ofBits .f32 1166016512#32 := by
  unfold_payloads
  pointwise

/-- The third kernel leaves the scaled product of the second layer after its mask and the third weights. -/
theorem value2 (h : Ends 2 c V V') (r : Fin 10000) (q : Fin 6) :
    (V' (Proc.devRef .tc main_v5) : S10000x6.Idx → EReal) (ix2 r q)
      = (∑ k : Fin 18, (mm (mat (V (Proc.devRef .tc main_v4_1) : S10000x10000.Idx → EReal)) (mat (V (Proc.devRef .tc main_v4_0) : S10000x18.Idx → EReal)) r k
            * Ideal.ofBits .f32 864026624#32 + (V (Proc.devRef .tc main_v1) : S1x18.Idx → EReal) (ix2 0 k))
            * (V (Proc.devRef .tc main_v4_2) : S10000x18.Idx → EReal) (ix2 r k) * (V (Proc.devRef .tc main_arg6) : S18x6.Idx → EReal) (ix2 k q))
          * Ideal.ofBits .f32 1166016512#32 := by
  obtain ⟨t, X, j, ⟨d0, d1, d2, d3, d4, rfl⟩, hat, e⟩ := h.element 5 rfl (by decide +kernel) (Memref.isWhole_whole _) rfl (ix2 r q)
  refine e.trans ?_
  idx_vars j
  have hat := (Steps.at_iff (by decide +kernel)).mp hat
  obtain rfl : q = j1 := Fin.ext ((hat 1).trans (stay _ _).symm)
  refine (pay4 _ _ _ _ _ _ _).trans
    (congrArg (fun z : EReal => z * Ideal.ofBits .f32 1166016512#32) (Finset.sum_congr rfl fun k _ =>
      congrArg₂ (· * ·) (congrArg₂ (· * ·) (congrArg₂ (fun y z : EReal => y * Ideal.ofBits .f32 864026624#32 + z)
        (Finset.sum_congr rfl fun l _ => congrArg₂ (· * ·) ?_ ?_) ?_) ?_) ?_))
  · exact fetched_at c V 0 (by decide +kernel) rfl t d0 (i := ix2 r l) ((Steps.at_iff (by decide +kernel)).mpr fun
      | ⟨0, _⟩ => hat 0
      | ⟨1, _⟩ => stay _ _)
  · exact fetched_at c V 1 (by decide +kernel) rfl t d1 (i := ix2 l k) (Stays.at (by decide +kernel) fun _ => rfl)
  · exact fetched_at c V 2 (by decide +kernel) rfl t d2 (i := ix2 0 k) (Stays.at (by decide +kernel) fun _ => rfl)
  · exact fetched_at c V 3 (by decide +kernel) rfl t d3 (i := ix2 r k) ((Steps.at_iff (by decide +kernel)).mpr fun
      | ⟨0, _⟩ => hat 0
      | ⟨1, _⟩ => stay _ _)
  · exact fetched_at c V 4 (by decide +kernel) rfl t d4 (i := ix2 k q) (Stays.at (by decide +kernel) fun _ => rfl)

/-- The fourth kernel's block, at an index: the logarithm of a row's softmax. -/
theorem pay5 (X1 : Vec Ideal S1024x10000 .fp8e4m3) (X2 : Vec Ideal S10000x6 .fp8e4m3) (X3 : Vec Ideal S1x6 .f32) (ρ : Fin 1024) (q : Fin 6) :
    k3_pay1 X1 X2 X3 (ix2 ρ q)
      = logSoftmax (fun (ρ : Fin 1024) k => (∑ l : Fin 10000, X1 (ix2 ρ l) * X2 (ix2 l k)) * Ideal.ofBits .f32 830472192#32 + X3 (ix2 0 k)) ρ q := by
  unfold_payloads
  pointwise
  rfl

/-- The logarithm of softmax depends on the one row. -/
theorem logSoftmax_row {n n' k : ℕ} {y : Fin n → Fin k → EReal} {z : Fin n' → Fin k → EReal} {r : Fin n} {r' : Fin n'} (h : ∀ q, y r q = z r' q) (q : Fin k) :
    logSoftmax y r q = logSoftmax z r' q := by
  unfold logSoftmax top
  simp only [h]

/-- The fourth kernel leaves the logarithm of softmax. -/
theorem value3 (h : Ends 3 c V V') (r : Fin 10000) (q : Fin 6) :
    (V' (Proc.devRef .tc main_v6) : S10000x6.Idx → EReal) (ix2 r q)
      = logSoftmax (fun r k => mm (mat (V (Proc.devRef .tc main_v4_1) : S10000x10000.Idx → EReal)) (mat (V (Proc.devRef .tc main_v5) : S10000x6.Idx → EReal)) r k
            * Ideal.ofBits .f32 830472192#32 + (V (Proc.devRef .tc main_v2) : S1x6.Idx → EReal) (ix2 0 k)) r q := by
  obtain ⟨t, X, j, ⟨d0, d1, d2, rfl⟩, hat, e⟩ := h.element 3 rfl (by decide +kernel) (Memref.isWhole_whole _) rfl (ix2 r q)
  refine e.trans ?_
  idx_vars j
  have hat := (Steps.at_iff (by decide +kernel)).mp hat
  obtain rfl : q = j1 := Fin.ext ((hat 1).trans (stay _ _).symm)
  refine (pay5 _ _ _ _ _).trans (logSoftmax_row (fun k => congrArg₂ (fun y z : EReal => y * Ideal.ofBits .f32 830472192#32 + z)
    (Finset.sum_congr rfl fun l _ => congrArg₂ (fun y z : EReal => y * z) ?_ ?_) ?_) q)
  · exact fetched_at c V 0 (by decide +kernel) rfl t d0 (i := ix2 r l) ((Steps.at_iff (by decide +kernel)).mpr fun
      | ⟨0, _⟩ => hat 0
      | ⟨1, _⟩ => stay _ _)
  · exact fetched_at c V 1 (by decide +kernel) rfl t d1 (i := ix2 l k) (Stays.at (by decide +kernel) fun _ => rfl)
  · exact fetched_at c V 2 (by decide +kernel) rfl t d2 (i := ix2 0 k) (Stays.at (by decide +kernel) fun _ => rfl)

end Cert.KernelIdeal.Run

end
-- ==== Proof.Scale.lean ====
/-
  The powers of two the kernel scales by leave its sums of products as they were, and its masks are the reference's dropout.
-/
module

public import proofs.«01_k».proof.Proof.Masks
public import proofs.«01_k».proof.Proof.Draw

@[expose] public section

noncomputable section

namespace Cert.KernelIdeal.Run

open Cert.KernelIdeal Cert.Spec Cert.Draw
open Idealize.ShloMosaic

/-- A finite factor that is not negative goes into a sum. -/
theorem sum_scale {ι : Type} (s : Finset ι) {x : EReal} (h : 0 ≤ x) (h' : x ≠ ⊤) (f : ι → EReal) : (∑ i ∈ s, f i) * x = ∑ i ∈ s, f i * x := by
  classical
  induction s using Finset.induction_on with
  | empty => simp
  | insert i s hi ih => rw [Finset.sum_insert hi, Finset.sum_insert hi, EReal.right_distrib_of_nonneg_of_ne_top h h', ih]

/-- Scales of both factors of each product and of the sum that multiply to one drop out. -/
theorem unscale {n : ℕ} (a s : Fin n → EReal) {x y z : ℝ} (h : x * y * z = 1) (hz : 0 ≤ z) :
    (∑ l, (a l * (x : EReal)) * (s l * (y : EReal))) * (z : EReal) = ∑ l, a l * s l := by
  rw [sum_scale _ (by exact_mod_cast hz) (EReal.coe_ne_top z)]
  refine Finset.sum_congr rfl fun l _ => ?_
  have e : (x : EReal) * y * z = 1 := by exact_mod_cast congrArg Real.toEReal h
  calc a l * (x : EReal) * (s l * y) * z = a l * s l * ((x : EReal) * y * z) := by ac_rfl
    _ = a l * s l := by rw [e, mul_one]

/-- The float word of two. -/
theorem ofBits_two : Ideal.ofBits .f32 1073741824#32 = ((2 : ℝ) : EReal) := by
  simp [Ideal.ofBits, Ideal.ieee, -EReal.coe_mul]; norm_num

/-- The float word of two to the sixteenth. -/
theorem ofBits_p16 : Ideal.ofBits .f32 1199570944#32 = ((65536 : ℝ) : EReal) := by
  simp [Ideal.ofBits, Ideal.ieee, -EReal.coe_mul]; norm_num

/-- The float word of two to the eighth. -/
theorem ofBits_p8 : Ideal.ofBits .f32 1132462080#32 = ((256 : ℝ) : EReal) := by
  simp [Ideal.ofBits, Ideal.ieee, -EReal.coe_mul]; norm_num

/-- The float word of two to the twelfth. -/
theorem ofBits_p12 : Ideal.ofBits .f32 1166016512#32 = ((4096 : ℝ) : EReal) := by
  simp [Ideal.ofBits, Ideal.ieee, -EReal.coe_mul]; norm_num

/-- The float word of two to the minus twenty-fourth. -/
theorem ofBits_m24 : Ideal.ofBits .f32 864026624#32 = ((1 / 16777216 : ℝ) : EReal) := by
  simp [Ideal.ofBits, Ideal.ieee, -EReal.coe_mul]; norm_num

/-- The float word of two to the minus twenty-eighth. -/
theorem ofBits_m28 : Ideal.ofBits .f32 830472192#32 = ((1 / 268435456 : ℝ) : EReal) := by
  simp [Ideal.ofBits, Ideal.ieee, -EReal.coe_mul]; norm_num

/-- The product with a mask's element is dropout. -/
theorem mul_mask {n k : ℕ} (key : BitVec 32) (h : Fin n → Fin k → EReal) (r : Fin n) (c : Fin k) : h r c * mask key k r c = drop key h r c := by
  unfold mask drop
  split
  · rw [ofBits_two, ofBits_half, Ideal.div, if_neg (by norm_num), ← EReal.coe_inv]
    norm_num
  · exact mul_zero _

end Cert.KernelIdeal.Run

end
-- ==== Proof.Final.lean ====
/-
  The kernel's result is the network of its arguments.
-/
module

public import proofs.«01_k».proof.Proof.Values
public import proofs.«01_k».proof.Proof.Scale

@[expose] public section

noncomputable section

namespace Cert.KernelIdeal.Run

open Cert.KernelIdeal Cert.KernelIdeal.Gen Cert.Spec
open Idealize.ShloMosaic

variable (m : (ℓ : Loc nD τ sig) → Buf (Elt Ideal) ℓ) (c : Dev nD)

/-- The host's reshapes put each bias into one row. -/
theorem bias1 (q : Fin 32) : (V1 m c (Proc.devRef .tc main_v0) : S1x32.Idx → EReal) (ix2 0 q) = (m ((c.tc : Thread nD τ).loc main_arg3) : S32.Idx → EReal) (ix1 q) := by
  have e : (V1 m c (Proc.devRef .tc main_v0) : S1x32.Idx → EReal) = shapeCast S1x32 (m ((c.tc : Thread nD τ).loc main_arg3) : S32.Idx → EReal) shapeCasts_S32_S1x32 := rfl
  rw [e]
  pointwise
@[inherit_doc bias1]
theorem bias2 (q : Fin 18) : (V1 m c (Proc.devRef .tc main_v1) : S1x18.Idx → EReal) (ix2 0 q) = (m ((c.tc : Thread nD τ).loc main_arg5) : S18.Idx → EReal) (ix1 q) := by
  have e : (V1 m c (Proc.devRef .tc main_v1) : S1x18.Idx → EReal) = shapeCast S1x18 (m ((c.tc : Thread nD τ).loc main_arg5) : S18.Idx → EReal) shapeCasts_S18_S1x18 := rfl
  rw [e]
  pointwise
@[inherit_doc bias1]
theorem bias3 (q : Fin 6) : (V1 m c (Proc.devRef .tc main_v2) : S1x6.Idx → EReal) (ix2 0 q) = (m ((c.tc : Thread nD τ).loc main_arg7) : S6.Idx → EReal) (ix1 q) := by
  have e : (V1 m c (Proc.devRef .tc main_v2) : S1x6.Idx → EReal) = shapeCast S1x6 (m ((c.tc : Thread nD τ).loc main_arg7) : S6.Idx → EReal) shapeCasts_S6_S1x6 := rfl
  rw [e]
  pointwise

variable {V : Valuation τ sig (Elt Ideal)}

/-- The network of the kernel's arguments. -/
def result : Fin 10000 → Fin 6 → EReal :=
  net (mat (m ((c.tc : Thread nD τ).loc main_arg0) : S10000x3703.Idx → EReal)) (mat (m ((c.tc : Thread nD τ).loc main_arg1) : S10000x10000.Idx → EReal))
    (mat (m ((c.tc : Thread nD τ).loc main_arg2) : S3703x32.Idx → EReal)) (fun k => (m ((c.tc : Thread nD τ).loc main_arg3) : S32.Idx → EReal) (ix1 k))
    (mat (m ((c.tc : Thread nD τ).loc main_arg4) : S32x18.Idx → EReal)) (fun k => (m ((c.tc : Thread nD τ).loc main_arg5) : S18.Idx → EReal) (ix1 k))
    (mat (m ((c.tc : Thread nD τ).loc main_arg6) : S18x6.Idx → EReal)) (fun k => (m ((c.tc : Thread nD τ).loc main_arg7) : S6.Idx → EReal) (ix1 k))

/-- What the four kernels reach holds the network of the arguments in the result's buffer. -/
theorem Reach.result (h : Reach m c V) (r : Fin 10000) (q : Fin 6) :
    (V (Proc.devRef .tc main_v6) : S10000x6.Idx → EReal) (ix2 r q) = result m c r q := by
  obtain ⟨V4, ⟨V3, ⟨V2, ⟨_, rfl, e0⟩, e1⟩, e2⟩, e3⟩ := h
  set A := mat (m ((c.tc : Thread nD τ).loc main_arg1) : S10000x10000.Idx → EReal) with hA
  set x := mat (m ((c.tc : Thread nD τ).loc main_arg0) : S10000x3703.Idx → EReal) with hx
  set w1 := mat (m ((c.tc : Thread nD τ).loc main_arg2) : S3703x32.Idx → EReal) with hw1
  set b1 := fun k => (m ((c.tc : Thread nD τ).loc main_arg3) : S32.Idx → EReal) (ix1 k) with hb1
  set w2 := mat (m ((c.tc : Thread nD τ).loc main_arg4) : S32x18.Idx → EReal) with hw2
  set b2 := fun k => (m ((c.tc : Thread nD τ).loc main_arg5) : S18.Idx → EReal) (ix1 k) with hb2
  set w3 := mat (m ((c.tc : Thread nD τ).loc main_arg6) : S18x6.Idx → EReal) with hw3
  set b3 := fun k => (m ((c.tc : Thread nD τ).loc main_arg7) : S6.Idx → EReal) (ix1 k) with hb3
  -- the first product
  have s1 : mat (V2 (Proc.devRef .tc main_v3) : S10000x32.Idx → EReal) = mm x w1 := by
    funext i k
    refine (value0 c e0 i k).trans ?_
    rw [V1_of m c main_arg0 (by decide), V1_of m c main_arg2 (by decide)]
  -- what the second kernel leaves
  have a2 : mat (V2 (Proc.devRef .tc main_arg1) : S10000x10000.Idx → EReal) = A := by
    rw [e0.of_ne _ (by decide), V1_of m c main_arg1 (by decide)]
  have s2 : mat (V3 (Proc.devRef .tc main_v4_0) : S10000x18.Idx → EReal) = fun i k => mm (layer1 x A w1 b1) w2 i k * ((256 : ℝ) : EReal) := by
    funext i k
    refine (value1a c e1 i k).trans ?_
    rw [a2, s1, ofBits_p8]
    refine congrArg (fun z : EReal => z * ((256 : ℝ) : EReal)) (Finset.sum_congr rfl fun l _ => congrArg₂ (fun y z : EReal => y * z) ?_ ?_)
    · refine (mul_mask 101#32 (fun i l => max (mm A (mm x w1) i l + (V2 (Proc.devRef .tc main_v0) : S1x32.Idx → EReal) (ix2 0 l)) 0) i l).trans ?_
      rw [e0.of_ne _ (by decide)]
      exact congrArg (fun b : Fin 32 → EReal => drop 101#32 (fun i l => max (mm A (mm x w1) i l + b l) 0) i l) (funext (bias1 m c))
    · rw [e0.of_ne _ (by decide), V1_of m c main_arg4 (by decide)]
  have a3 : mat (V3 (Proc.devRef .tc main_v4_1) : S10000x10000.Idx → EReal) = fun i k => A i k * ((65536 : ℝ) : EReal) := by
    funext i k
    refine (value1b c e1 i k).trans ?_
    rw [a2, ofBits_p16]
  -- what the third kernel leaves
  have s3 : mat (V4 (Proc.devRef .tc main_v5) : S10000x6.Idx → EReal)
      = fun i k => mm (drop 202#32 (layer A (layer1 x A w1 b1) w2 b2)) w3 i k * ((4096 : ℝ) : EReal) := by
    funext i k
    refine (value2 c e2 i k).trans ?_
    rw [a3, s2, ofBits_p12, ofBits_m24]
    refine congrArg (fun z : EReal => z * ((4096 : ℝ) : EReal)) (Finset.sum_congr rfl fun l _ => congrArg₂ (fun y z : EReal => y * z) ?_ ?_)
    · rw [value1c c e1 i l, ← mul_mask]
      refine congrArg (fun z : EReal => z * mask 202#32 18 i l) (congrArg₂ (fun y z : EReal => y + z) ?_ ?_)
      · exact unscale (fun j => A i j) (fun j => mm (layer1 x A w1 b1) w2 j l) (by norm_num) (by norm_num)
      · rw [e1.of_ne _ (by decide), e0.of_ne _ (by decide), bias2]
    · rw [e1.of_ne _ (by decide), e0.of_ne _ (by decide), V1_of m c main_arg6 (by decide)]
  have a4 : mat (V4 (Proc.devRef .tc main_v4_1) : S10000x10000.Idx → EReal) = fun i k => A i k * ((65536 : ℝ) : EReal) := by
    rw [e2.of_ne _ (by decide)]; exact a3
  -- what the fourth kernel leaves
  refine (value3 c e3 r q).trans (logSoftmax_row (fun k => ?_) q)
  rw [a4, s3, ofBits_m28]
  refine congrArg₂ (fun y z : EReal => y + z) ?_ ?_
  · exact unscale (fun j => A r j) (fun j => mm (drop 202#32 (layer A (layer1 x A w1 b1) w2 b2)) w3 j k) (by norm_num) (by norm_num)
  · rw [e2.of_ne _ (by decide), e1.of_ne _ (by decide), e0.of_ne _ (by decide), bias3]

/-- A final memory holds the network of the arguments. -/
theorem Final.result {s : MemSt nD τ sig (Elt Ideal)} (h : Final m c s) (r : Fin 10000) (q : Fin 6) :
    (s.mem ((c.tc : Thread nD τ).loc main_v6) : S10000x6.Idx → EReal) (ix2 r q) = Run.result m c r q := by
  obtain ⟨V, hV, hs⟩ := h
  have e : s.mem ((c.tc : Thread nD τ).loc main_v6) = V (Proc.devRef .tc main_v6) :=
    hs (Proc.devRef .tc main_v6) (Finset.mem_filter.mpr ⟨StableHlo.devRef_mem_tcRefs main_v6, by decide⟩)
  rw [e]
  exact hV.result m c r q

end Cert.KernelIdeal.Run

end
-- ==== Proof.lean ====
/-
  The proof of `Cert.Claim`: the frames of the kernel, of its idealized print and of the reference, that the idealized print is the
  kernel's, and that over the ideal numbers it computes what the reference computes.
-/
module

public import proofs.«01_k».proof.Defs
public import proofs.«01_k».proof.Proof.Twin
public import proofs.«01_k».proof.Proof.RefMain
public import proofs.«01_k».proof.Proof.Final
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- Over the ideal numbers the kernel and the reference, launched on equal arguments, both end with the network of the arguments
    as their result, and with their arguments as they were. -/
theorem algebraic [Cert.KernelIdeal.Facts] [Cert.ReferenceIdeal.Facts] : Cert.algebraic_KernelIdeal_ReferenceIdeal := by
  intro m g m' g' _ hm
  refine ⟨fun c (i : Cert.KernelIdeal.S10000x6.Idx) => Cert.KernelIdeal.Run.result m c (i 0) (i 1), ?_, ?_⟩
  · refine (θ_run _ _ _).mono (fun r h c => ⟨?_, (h.1 c).args m⟩) (Cert.KernelIdeal.Run.run_main m g)
    funext i
    idx_vars i
    exact (h.1 c).result m c _ _
  · refine (θ_run _ _ _).mono (fun r h c => ⟨?_, (h c).2 _ (by decide), (h c).2 _ (by decide), (h c).2 _ (by decide), (h c).2 _ (by decide),
      (h c).2 _ (by decide), (h c).2 _ (by decide), (h c).2 _ (by decide), (h c).2 _ (by decide)⟩) (Cert.ReferenceIdeal.Lines.run_main m' g')
    funext i
    idx_vars i
    obtain ⟨h0, h1, h2, h3, h4, h5, h6, h7⟩ := hm c
    refine ((h c).1 _ _).trans ?_
    rw [h0, h1, h2, h3, h4, h5, h6, h7]
    rfl

/-- The claims of this certificate. -/
theorem claim : Cert.Claim := by
  haveI := Cert.Kernel.Gen.facts
  haveI := Cert.KernelIdeal.Gen.facts
  haveI := Cert.ReferenceIdeal.Gen.facts
  exact ⟨Cert.Kernel.Gen.facts, Cert.KernelIdeal.Gen.facts, Cert.ReferenceIdeal.Gen.facts, frame_Kernel, fun m g _ => Cert.KernelIdeal.Run.run_frame m g,
    Cert.ReferenceIdeal.Lines.frame, trivial, algebraic⟩

end Cert.Proof

end
